-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_logit_finite [hPre_top_logit_finite : Cert.Pre_top_logit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_logit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_logit_finite [hPre_top_logit_finite : Cert.Pre_top_logit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_logit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_top_logit_finite [hKernelIdeal : Cert.KernelIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_logit_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_top_logit_finite [hReferenceIdeal : Cert.ReferenceIdeal.Facts] [hPre_top_logit_finite : Cert.Pre_top_logit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_logit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_top_logit_finite [hKernelIdeal : Cert.KernelIdeal.Facts] [hReferenceIdeal : Cert.ReferenceIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_logit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_top_logit_finite : Cert.Pre_top_logit_finite.Facts),
    quiescent_Kernel (hKernel := hKernel)
    ∧ quiescent_KernelIdeal (hKernelIdeal := hKernelIdeal)
    ∧ quiescent_KernelIdeal_pre_top_logit_finite (hKernelIdeal := hKernelIdeal) (hPre_top_logit_finite := hPre_top_logit_finite)
    ∧ quiescent_ReferenceIdeal (hReferenceIdeal := hReferenceIdeal)
    ∧ quiescent_ReferenceIdeal_pre_top_logit_finite (hReferenceIdeal := hReferenceIdeal) (hPre_top_logit_finite := hPre_top_logit_finite)
    ∧ preserves_Kernel_KernelIdeal
    ∧ algebraic_KernelIdeal_ReferenceIdeal_pre_top_logit_finite (hKernelIdeal := hKernelIdeal) (hReferenceIdeal := hReferenceIdeal) (hPre_top_logit_finite := hPre_top_logit_finite)
-- ==== Pre_top_logit_finite.lean ====
abbrev S1024x20x64 : Shape := ⟨3, ![1024, 20, 64]⟩
abbrev S64x8 : Shape := ⟨2, ![64, 8]⟩
abbrev S8x64x64 : Shape := ⟨3, ![8, 64, 64]⟩
abbrev S8x64 : Shape := ⟨2, ![8, 64]⟩
abbrev S8x20x64 : Shape := ⟨3, ![8, 20, 64]⟩
abbrev S8x20 : Shape := ⟨2, ![8, 20]⟩
abbrev S8x1x20 : Shape := ⟨3, ![8, 1, 20]⟩
abbrev S8x1 : Shape := ⟨2, ![8, 1]⟩
abbrev S1024x1x64 : Shape := ⟨3, ![1024, 1, 64]⟩
abbrev S1024x64 : Shape := ⟨2, ![1024, 64]⟩
abbrev S1024x8 : Shape := ⟨2, ![1024, 8]⟩
abbrev S_ : Shape := ⟨0, ![]⟩
abbrev S1024 : Shape := ⟨1, ![1024]⟩

class Facts : Prop where
  slices_S1024x20x64_S1024x1x64_0_19_0 : S1024x20x64.Slices ![0, 19, 0] S1024x1x64
  shapeCasts_S1024x1x64_S1024x64 : S1024x1x64.ShapeCasts S1024x64
  reducesTo_S1024x8_S1024_d1 : S1024x8.ReducesTo [1] S1024
  h_S_ : 0 < S_.numel
  bcast_S_S1024 : S_.BroadcastsInDim S1024 (![] : Fin 0 → Fin S1024.rank)
  reducesTo_S1024_S_d0 : S1024.ReducesTo [0] S_
  dot_S1024x64_S64x8_S1024x8_1_0_0_1_n_n_wf : DotDims.WF S1024x64 S64x8 S1024x8 [1] [0] [0] [1] [] []

variable [Facts]

def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def fn {F : FTy → Type} [FloatOps F] (main_arg0 : FVec F S1024x20x64 .f32) (main_arg1 : FVec F S64x8 .f32) (main_arg2 : FVec F S8x64x64 .f32) (main_arg3 : FVec F S8x64x64 .f32) (main_arg4 : FVec F S8x64 .f32) (main_arg5 : FVec F S8x64 .f32) (main_arg6 : FVec F S8x20x64 .f32) (main_arg7 : FVec F S8x20 .f32) (main_arg8 : FVec F S8x1x20 .f32) (main_arg9 : FVec F S8x1 .f32) : IVec S_ 1 :=
  let main_v0 : FVec F S1024x1x64 .f32 := (extractStridedSlice S1024x1x64 ![0, 19, 0] · slices_S1024x20x64_S1024x1x64_0_19_0) main_arg0
  let main_v1 : FVec F S1024x64 .f32 := shapeCast S1024x64 main_v0 shapeCasts_S1024x1x64_S1024x64
  let main_v2 : FVec F S1024x8 .f32 := (fun l r => Host.dotGeneral dot_S1024x64_S64x8_S1024x8_1_0_0_1_n_n none l r) main_v1 main_arg1
  let main_cst : FVec F S_ .f32 := constant S_ .f32 0xFF800000#32
  let main_v3 : FVec F S1024 .f32 := (fun x v => Host.reduce FloatOps.maximumf x v reducesTo_S1024x8_S1024_d1 h_S_) main_v2 main_cst
  let main_v4 : FVec F S1024 .f32 := Host.absf main_v3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c : IVec S_ 1 := constantI S_ 1 1#1
  let main_v7 : IVec S_ 1 := (fun x v => Host.reduce IntOp.andi x v reducesTo_S1024_S_d0 h_S_) main_v6 main_c
  main_v7
-- ==== Kernel.lean ====
abbrev S1024x20x64 : Shape := ⟨3, ![1024, 20, 64]⟩
abbrev S64x8 : Shape := ⟨2, ![64, 8]⟩
abbrev S8x64x64 : Shape := ⟨3, ![8, 64, 64]⟩
abbrev S8x64 : Shape := ⟨2, ![8, 64]⟩
abbrev S8x20x64 : Shape := ⟨3, ![8, 20, 64]⟩
abbrev S8x20 : Shape := ⟨2, ![8, 20]⟩
abbrev S8x1x20 : Shape := ⟨3, ![8, 1, 20]⟩
abbrev S8x1 : Shape := ⟨2, ![8, 1]⟩
abbrev S1024x1280 : Shape := ⟨2, ![1024, 1280]⟩
abbrev S512x64 : Shape := ⟨2, ![512, 64]⟩
abbrev S1x512 : Shape := ⟨2, ![1, 512]⟩
abbrev S160x64 : Shape := ⟨2, ![160, 64]⟩
abbrev S1x160 : Shape := ⟨2, ![1, 160]⟩
abbrev S1x8 : Shape := ⟨2, ![1, 8]⟩
abbrev S1024x1 : Shape := ⟨2, ![1024, 1]⟩
abbrev S1x1 : Shape := ⟨2, ![1, 1]⟩
abbrev S1024x320 : Shape := ⟨2, ![1024, 320]⟩
abbrev S320x256 : Shape := ⟨2, ![320, 256]⟩
abbrev S512x160 : Shape := ⟨2, ![512, 160]⟩
abbrev S64x64 : Shape := ⟨2, ![64, 64]⟩
abbrev S20x64 : Shape := ⟨2, ![20, 64]⟩
abbrev S64x20 : Shape := ⟨2, ![64, 20]⟩
abbrev S1x256 : Shape := ⟨2, ![1, 256]⟩
abbrev S1024x256 : Shape := ⟨2, ![1024, 256]⟩
abbrev S1024x64 : Shape := ⟨2, ![1024, 64]⟩
abbrev S1024x512 : Shape := ⟨2, ![1024, 512]⟩
abbrev S1024x160 : Shape := ⟨2, ![1024, 160]⟩
abbrev S160x8 : Shape := ⟨2, ![160, 8]⟩
abbrev S160x1 : Shape := ⟨2, ![160, 1]⟩
abbrev S1024x8 : Shape := ⟨2, ![1024, 8]⟩
abbrev S1024 : Shape := ⟨1, ![1024]⟩
abbrev S8 : Shape := ⟨1, ![8]⟩
abbrev S1 : Shape := ⟨1, ![1]⟩

abbrev nBuf : Space → Nat
  | .hbm => 21
  | .vmem => 17
  | .smem => 0
  | _ => 0

abbrev bufTy : (tb : Table) → Fin (tcTables nBuf tb) → BufTy
  | .hbm, ⟨0, _⟩ => ⟨S1024x20x64, .f32⟩
  | .hbm, ⟨1, _⟩ => ⟨S64x8, .f32⟩
  | .hbm, ⟨2, _⟩ => ⟨S8x64x64, .f32⟩
  | .hbm, ⟨3, _⟩ => ⟨S8x64x64, .f32⟩
  | .hbm, ⟨4, _⟩ => ⟨S8x64, .f32⟩
  | .hbm, ⟨5, _⟩ => ⟨S8x64, .f32⟩
  | .hbm, ⟨6, _⟩ => ⟨S8x20x64, .f32⟩
  | .hbm, ⟨7, _⟩ => ⟨S8x20, .f32⟩
  | .hbm, ⟨8, _⟩ => ⟨S8x1x20, .f32⟩
  | .hbm, ⟨9, _⟩ => ⟨S8x1, .f32⟩
  | .hbm, ⟨10, _⟩ => ⟨S1024x1280, .f32⟩
  | .hbm, ⟨11, _⟩ => ⟨S512x64, .f32⟩
  | .hbm, ⟨12, _⟩ => ⟨S512x64, .f32⟩
  | .hbm, ⟨13, _⟩ => ⟨S1x512, .f32⟩
  | .hbm, ⟨14, _⟩ => ⟨S1x512, .f32⟩
  | .hbm, ⟨15, _⟩ => ⟨S160x64, .f32⟩
  | .hbm, ⟨16, _⟩ => ⟨S1x160, .f32⟩
  | .hbm, ⟨17, _⟩ => ⟨S1x160, .f32⟩
  | .hbm, ⟨18, _⟩ => ⟨S1x8, .f32⟩
  | .hbm, ⟨19, _⟩ => ⟨S1024x1, .f32⟩
  | .hbm, ⟨20, _⟩ => ⟨S1x1, .f32⟩
  | .local _ .vmem, ⟨0, _⟩ => ⟨S1024x1280, .f32⟩
  | .local _ .vmem, ⟨1, _⟩ => ⟨S64x8, .f32⟩
  | .local _ .vmem, ⟨2, _⟩ => ⟨S512x64, .f32⟩
  | .local _ .vmem, ⟨3, _⟩ => ⟨S512x64, .f32⟩
  | .local _ .vmem, ⟨4, _⟩ => ⟨S1x512, .f32⟩
  | .local _ .vmem, ⟨5, _⟩ => ⟨S1x512, .f32⟩
  | .local _ .vmem, ⟨6, _⟩ => ⟨S160x64, .f32⟩
  | .local _ .vmem, ⟨7, _⟩ => ⟨S1x160, .f32⟩
  | .local _ .vmem, ⟨8, _⟩ => ⟨S1x160, .f32⟩
  | .local _ .vmem, ⟨9, _⟩ => ⟨S1x8, .f32⟩
  | .local _ .vmem, ⟨10, _⟩ => ⟨S1024x1, .f32⟩
  | .local _ .vmem, ⟨11, _⟩ => ⟨S1x1, .f32⟩
  | .local _ .vmem, ⟨12, _⟩ => ⟨S1024x320, .f32⟩
  | .local _ .vmem, ⟨13, _⟩ => ⟨S1024x320, .f32⟩
  | .local _ .vmem, ⟨14, _⟩ => ⟨S320x256, .f32⟩
  | .local _ .vmem, ⟨15, _⟩ => ⟨S320x256, .f32⟩
  | .local _ .vmem, ⟨16, _⟩ => ⟨S512x160, .f32⟩
  | _, _ => ⟨S1024x20x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_v0_0 : Ref sig .tc := ⟨.hbm, 19, rfl⟩
abbrev main_v0_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S1024x20x64 : Shape := ⟨3, ![1024, 20, 64]⟩
abbrev S64x8 : Shape := ⟨2, ![64, 8]⟩
abbrev S8x64x64 : Shape := ⟨3, ![8, 64, 64]⟩
abbrev S8x64 : Shape := ⟨2, ![8, 64]⟩
abbrev S8x20x64 : Shape := ⟨3, ![8, 20, 64]⟩
abbrev S8x20 : Shape := ⟨2, ![8, 20]⟩
abbrev S8x1x20 : Shape := ⟨3, ![8, 1, 20]⟩
abbrev S8x1 : Shape := ⟨2, ![8, 1]⟩
abbrev S20x1024x64 : Shape := ⟨3, ![20, 1024, 64]⟩
abbrev S_ : Shape := ⟨0, ![]⟩
abbrev S8x1024x64 : Shape := ⟨3, ![8, 1024, 64]⟩
abbrev S1x1024x64 : Shape := ⟨3, ![1, 1024, 64]⟩
abbrev S1024x64 : Shape := ⟨2, ![1024, 64]⟩
abbrev S8x64x1024 : Shape := ⟨3, ![8, 64, 1024]⟩
abbrev S8x1x64 : Shape := ⟨3, ![8, 1, 64]⟩
abbrev S8x1024x20 : Shape := ⟨3, ![8, 1024, 20]⟩
abbrev S8x1024x1 : Shape := ⟨3, ![8, 1024, 1]⟩
abbrev S8x1x1 : Shape := ⟨3, ![8, 1, 1]⟩
abbrev S1024x1x64 : Shape := ⟨3, ![1024, 1, 64]⟩
abbrev S1024x8 : Shape := ⟨2, ![1024, 8]⟩
abbrev S1024x3 : Shape := ⟨2, ![1024, 3]⟩
abbrev S1024x2 : Shape := ⟨2, ![1024, 2]⟩
abbrev S1024 : Shape := ⟨1, ![1024]⟩
abbrev S1024x1 : Shape := ⟨2, ![1024, 1]⟩
abbrev S1024x2x1 : Shape := ⟨3, ![1024, 2, 1]⟩
abbrev S1024x2x2 : Shape := ⟨3, ![1024, 2, 2]⟩
abbrev S8 : Shape := ⟨1, ![8]⟩
abbrev S1 : Shape := ⟨1, ![1]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S1024x20x64, .f32⟩
  | 1 => ⟨S64x8, .f32⟩
  | 2 => ⟨S8x64x64, .f32⟩
  | 3 => ⟨S8x64x64, .f32⟩
  | 4 => ⟨S8x64, .f32⟩
  | 5 => ⟨S8x64, .f32⟩
  | 6 => ⟨S8x20x64, .f32⟩
  | 7 => ⟨S8x20, .f32⟩
  | 8 => ⟨S8x1x20, .f32⟩
  | 9 => ⟨S8x1, .f32⟩
  | 10 => ⟨S20x1024x64, .f32⟩
  | 11 => ⟨S_, .f32⟩
  | 12 => ⟨S8x1024x64, .f32⟩
  | 13 => ⟨S_, .i32⟩
  | 14 => ⟨S20x1024x64, .f32⟩
  | 15 => ⟨S8x64x64, .f32⟩
  | 16 => ⟨S8x64x64, .f32⟩
  | 17 => ⟨S8x64, .f32⟩
  | 18 => ⟨S8x64, .f32⟩
  | 19 => ⟨S_, .i32⟩
  | 20 => ⟨S8x1024x64, .f32⟩
  | 21 => ⟨S_, .i32⟩
  | 22 => ⟨S_, .i1⟩
  | 23 => ⟨S_, .i32⟩
  | 24 => ⟨S_, .i32⟩
  | 25 => ⟨S1x1024x64, .f32⟩
  | 26 => ⟨S1024x64, .f32⟩
  | 27 => ⟨S8x64x1024, .f32⟩
  | 28 => ⟨S8x1024x64, .f32⟩
  | 29 => ⟨S8x1024x64, .f32⟩
  | 30 => ⟨S8x1024x64, .f32⟩
  | 31 => ⟨S8x1x64, .f32⟩
  | 32 => ⟨S8x1024x64, .f32⟩
  | 33 => ⟨S8x1024x64, .f32⟩
  | 34 => ⟨S8x1x64, .f32⟩
  | 35 => ⟨S8x1024x64, .f32⟩
  | 36 => ⟨S8x1024x64, .f32⟩
  | 37 => ⟨S8x1024x64, .f32⟩
  | 38 => ⟨S_, .i32⟩
  | 39 => ⟨S_, .i32⟩
  | 40 => ⟨S8x1024x20, .f32⟩
  | 41 => ⟨S8x1x20, .f32⟩
  | 42 => ⟨S8x1024x20, .f32⟩
  | 43 => ⟨S8x1024x20, .f32⟩
  | 44 => ⟨S8x1024x20, .f32⟩
  | 45 => ⟨S8x1024x1, .f32⟩
  | 46 => ⟨S8x1x1, .f32⟩
  | 47 => ⟨S8x1024x1, .f32⟩
  | 48 => ⟨S8x1024x1, .f32⟩
  | 49 => ⟨S1024x1x64, .f32⟩
  | 50 => ⟨S1024x64, .f32⟩
  | 51 => ⟨S1024x8, .f32⟩
  | 52 => ⟨S1024x3, .f32⟩
  | 53 => ⟨S1024x3, .i32⟩
  | 54 => ⟨S1024x2, .f32⟩
  | 55 => ⟨S1024x2, .i32⟩
  | 56 => ⟨S_, .f32⟩
  | 57 => ⟨S1024, .f32⟩
  | 58 => ⟨S_, .f32⟩
  | 59 => ⟨S1024, .f32⟩
  | 60 => ⟨S1024, .f32⟩
  | 61 => ⟨S1024x1, .f32⟩
  | 62 => ⟨S1024x2, .f32⟩
  | 63 => ⟨S1024x2, .f32⟩
  | 64 => ⟨S1024x2, .f32⟩
  | 65 => ⟨S_, .f32⟩
  | 66 => ⟨S1024, .f32⟩
  | 67 => ⟨S1024x1, .f32⟩
  | 68 => ⟨S1024x2, .f32⟩
  | 69 => ⟨S1024x2, .f32⟩
  | 70 => ⟨S_, .f32⟩
  | 71 => ⟨S1024x8, .f32⟩
  | 72 => ⟨S1024, .i32⟩
  | 73 => ⟨S1024x1, .i32⟩
  | 74 => ⟨S_, .i32⟩
  | 75 => ⟨S1024x1, .i32⟩
  | 76 => ⟨S1024x1, .i1⟩
  | 77 => ⟨S_, .i32⟩
  | 78 => ⟨S1024x1, .i32⟩
  | 79 => ⟨S1024x1, .i32⟩
  | 80 => ⟨S1024x1, .i32⟩
  | 81 => ⟨S_, .i32⟩
  | 82 => ⟨S1024x2, .i32⟩
  | 83 => ⟨S1024x2, .i1⟩
  | 84 => ⟨S_, .i32⟩
  | 85 => ⟨S1024x2, .i32⟩
  | 86 => ⟨S1024x2, .i32⟩
  | 87 => ⟨S1024x2, .i32⟩
  | 88 => ⟨S1024x2, .i32⟩
  | 89 => ⟨S1024x2x1, .i32⟩
  | 90 => ⟨S1024x2x1, .i32⟩
  | 91 => ⟨S1024x2x2, .i32⟩
  | 92 => ⟨S1024x8, .f32⟩
  | 93 => ⟨S_, .f32⟩
  | 94 => ⟨S8, .f32⟩
  | 95 => ⟨S_, .f32⟩
  | 96 => ⟨S1024x8, .f32⟩
  | 97 => ⟨S1024x8, .i1⟩
  | 98 => ⟨S1024x8, .i32⟩
  | 99 => ⟨S_, .i32⟩
  | 100 => ⟨S8, .i32⟩
  | 101 => ⟨S_, .i32⟩
  | 102 => ⟨S_, .f32⟩
  | 103 => ⟨S_, .f32⟩
  | 104 => ⟨S1, .f32⟩
  | 105 => ⟨S_, .f32⟩
  | 106 => ⟨S1, .f32⟩
  | 107 => ⟨S1, .f32⟩
  | 108 => ⟨S8, .f32⟩
  | 109 => ⟨S8, .f32⟩
  | 110 => ⟨S8, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1024x20x64, .f32⟩

abbrev hbmTy0_1 (i : Nat) : BufTy := match i % 128 with
  | 0 => ⟨S_, .f32⟩
  | 1 => ⟨S_, .f32⟩
  | 2 => ⟨S8, .f32⟩
  | 3 => ⟨S_, .i32⟩
  | 4 => ⟨S_, .f32⟩
  | 5 => ⟨S_, .f32⟩
  | 6 => ⟨S1, .f32⟩
  | 7 => ⟨S_, .f32⟩
  | 8 => ⟨S1, .f32⟩
  | 9 => ⟨S1, .f32⟩
  | 10 => ⟨S8, .f32⟩
  | 11 => ⟨S8, .f32⟩
  | 12 => ⟨S8, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .i1⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1024x1, .f32⟩
  | 36 => ⟨S1x1, .f32⟩
  | _ => ⟨S1024x20x64, .f32⟩

abbrev hbmTy (i : Nat) : BufTy := match i / 128 with
  | 0 => hbmTy0_0 i
  | 1 => hbmTy0_1 i
  | _ => ⟨S1024x20x64, .f32⟩

abbrev bufTy : (tb : Table) → Fin (tcTables nBuf tb) → BufTy
  | .hbm, ⟨i, _⟩ => hbmTy i
  | _, _ => ⟨S1024x20x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev main_v2_6 : Ref sig .tc := ⟨.hbm, 20, rfl⟩
abbrev main_while0c_c_26 : Ref sig .tc := ⟨.hbm, 21, rfl⟩
abbrev main_while0c_v68 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v68 : Ref sig .tc := ⟨.hbm, 26, rfl⟩
abbrev main_while0b_v69 : Ref sig .tc := ⟨.hbm, 27, rfl⟩
abbrev main_while0b_v70 : Ref sig .tc := ⟨.hbm, 28, rfl⟩
abbrev main_while0b_v71 : Ref sig .tc := ⟨.hbm, 29, rfl⟩
abbrev main_while0b_v72 : Ref sig .tc := ⟨.hbm, 30, rfl⟩
abbrev main_while0b_v73 : Ref sig .tc := ⟨.hbm, 31, rfl⟩
abbrev main_while0b_v74 : Ref sig .tc := ⟨.hbm, 32, rfl⟩
abbrev main_while0b_v75 : Ref sig .tc := ⟨.hbm, 33, rfl⟩
abbrev main_while0b_v76 : Ref sig .tc := ⟨.hbm, 34, rfl⟩
abbrev main_while0b_v77 : Ref sig .tc := ⟨.hbm, 35, rfl⟩
abbrev main_while0b_v78 : Ref sig .tc := ⟨.hbm, 36, rfl⟩
abbrev main_while0b_v79 : Ref sig .tc := ⟨.hbm, 37, rfl⟩
abbrev main_while0b_c_26 : Ref sig .tc := ⟨.hbm, 38, rfl⟩
abbrev main_while0b_v80 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_values : Ref sig .tc := ⟨.hbm, 52, rfl⟩
abbrev main_indices : Ref sig .tc := ⟨.hbm, 53, rfl⟩
abbrev main_v15 : Ref sig .tc := ⟨.hbm, 54, rfl⟩
abbrev main_v16 : Ref sig .tc := ⟨.hbm, 55, rfl⟩
abbrev main_cst_0 : Ref sig .tc := ⟨.hbm, 56, rfl⟩
abbrev main_v17 : Ref sig .tc := ⟨.hbm, 57, rfl⟩
abbrev main_cst_1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_4 : Ref sig .tc := ⟨.hbm, 74, rfl⟩
abbrev main_v31 : Ref sig .tc := ⟨.hbm, 75, rfl⟩
abbrev main_v32 : Ref sig .tc := ⟨.hbm, 76, rfl⟩
abbrev main_c_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_6 : Ref sig .tc := ⟨.hbm, 81, rfl⟩
abbrev main_v36 : Ref sig .tc := ⟨.hbm, 82, rfl⟩
abbrev main_v37 : Ref sig .tc := ⟨.hbm, 83, rfl⟩
abbrev main_c_7 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_8 : Ref sig .tc := ⟨.hbm, 93, rfl⟩
abbrev main_v46 : Ref sig .tc := ⟨.hbm, 94, rfl⟩
abbrev main_cst_9 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_c_10 : Ref sig .tc := ⟨.hbm, 99, rfl⟩
abbrev main_v50 : Ref sig .tc := ⟨.hbm, 100, rfl⟩
abbrev main_c_11 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_cst_3 : Ref sig .tc := ⟨.hbm, 117, rfl⟩
abbrev main_call1_v11 : Ref sig .tc := ⟨.hbm, 118, rfl⟩
abbrev main_call1_cst_4 : Ref sig .tc := ⟨.hbm, 119, rfl⟩
abbrev main_call1_call0_v0 : Ref sig .tc := ⟨.hbm, 120, rfl⟩
abbrev main_v51 : Ref sig .tc := ⟨.hbm, 121, rfl⟩
abbrev main_cst_12 : Ref sig .tc := ⟨.hbm, 122, rfl⟩
abbrev main_v52 : Ref sig .tc := ⟨.hbm, 123, rfl⟩
abbrev main_cst_13 : Ref sig .tc := ⟨.hbm, 124, rfl⟩
abbrev main_v53 : Ref sig .tc := ⟨.hbm, 125, rfl⟩
abbrev main_v54 : Ref sig .tc := ⟨.hbm, 126, rfl⟩
abbrev main_cst_14 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_c_15 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_cst_3 : Ref sig .tc := ⟨.hbm, 147, rfl⟩
abbrev main_call2_v11 : Ref sig .tc := ⟨.hbm, 148, rfl⟩
abbrev main_call2_cst_4 : Ref sig .tc := ⟨.hbm, 149, rfl⟩
abbrev main_call2_call0_v0 : Ref sig .tc := ⟨.hbm, 150, rfl⟩
abbrev main_v58 : Ref sig .tc := ⟨.hbm, 151, rfl⟩
abbrev main_cst_16 : Ref sig .tc := ⟨.hbm, 152, rfl⟩
abbrev main_v59 : Ref sig .tc := ⟨.hbm, 153, rfl⟩
abbrev main_cst_17 : Ref sig .tc := ⟨.hbm, 154, rfl⟩
abbrev main_v60 : Ref sig .tc := ⟨.hbm, 155, rfl⟩
abbrev main_v61 : Ref sig .tc := ⟨.hbm, 156, rfl⟩
abbrev main_cst_18 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_cst_19 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩

abbrev nD : Nat := 1
abbrev τ : Topo := Topo.v7x

variable {F : FTy → Type} [FloatOps F]

abbrev main_while0_count : Scf.Loop 32 := ⟨0#32, 20#32, 1#32⟩
-- ==== Proof.RefRun.lean ====
/- The reference program's run, up to its last line.
   @main is one stretch of host operations, one counted host loop of 20 trips and five stretches after the loop.
   `run_fold`: every weakly fair execution terminates with every unscoped TensorCore buffer at the fold of those
   stretches' operations over the launch's memory (`finalContents`). What one trip and the stretches after the loop
   compute is in RefTrip.lean and RefTail.lean.
   The text is the generated run module's up to and with `run_fold`; the rest of that module is left out, since it
   states the loss as a term whose `jnp.var` test (constants only) does not fix the float type. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1172

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 11 host operations of @main, in order. -/
abbrev hostOps0 : List (HloOp τ sig (Elt F)) :=
  [ StableHlo.unary main_arg0 main_v0 ((transpose S20x1024x64 [1, 0, 2] · transposes_S1024x20x64_S20x1024x64_1_0_2) : (⟨S1024x20x64, .f32⟩ : BufTy).Contents (Elt F) → (⟨S20x1024x64, .f32⟩ : BufTy).Contents (Elt F)),
    StableHlo.nullary main_cst (constant S_ .f32 0x00000000#32),
    StableHlo.unary main_cst main_v1 (broadcastInDim S8x1024x64 ![] bcast_S_S8x1024x64 : (⟨S_, .f32⟩ : BufTy).Contents (Elt F) → (⟨S8x1024x64, .f32⟩ : BufTy).Contents (Elt F)),
    StableHlo.nullary main_c (constantI S_ 32 0#32),
    StableHlo.unary main_v0 main_v2_0 id,
    StableHlo.unary main_arg2 main_v2_1 id,
    StableHlo.unary main_arg3 main_v2_2 id,
    StableHlo.unary main_arg4 main_v2_3 id,
    StableHlo.unary main_arg5 main_v2_4 id,
    StableHlo.unary main_c main_v2_5 id,
    StableHlo.unary main_v1 main_v2_6 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 62 host operations of @main, in order. -/
abbrev hostOps0_1 : List (HloOp τ sig (Elt F)) :=
  ( StableHlo.binary main_v2_6 main_arg6 main_v3 ((fun l r => Host.dotGeneral dot_S8x1024x64_S8x20x64_S8x1024x20_2_2_1_1_0_0 none l r) : (⟨S8x1024x64, .f32⟩ : BufTy).Contents (Elt F) → (⟨S8x20x64, .f32⟩ : BufTy).Contents (Elt F) → (⟨S8x1024x20, .f32⟩ : BufTy).Contents (Elt F))
  :: StableHlo.unary main_arg7 main_v4 (broadcastInDim S8x1x20 ![0, 2] bcast_S8x20_S8x1x20_0_2 : (⟨S8x20, .f32⟩ : BufTy).Contents (Elt F) → (⟨S8x1x20, .f32⟩ : BufTy).Contents (Elt F))
  :: StableHlo.unary main_v4 main_v5 (broadcastInDim S8x1024x20 ![0, 1, 2] bcast_S8x1x20_S8x1024x20_0_1_2 : (⟨S8x1x20, .f32⟩ : BufTy).Contents (Elt F) → (⟨S8x1024x20, .f32⟩ : BufTy).Contents (Elt F))
  :: StableHlo.binary main_v3 main_v5 main_v6 (addf : (⟨S8x1024x20, .f32⟩ : BufTy).Contents (Elt F) → (⟨S8x1024x20, .f32⟩ : BufTy).Contents (Elt F) → (⟨S8x1024x20, .f32⟩ : BufTy).Contents (Elt F))
  :: StableHlo.unary main_v6 main_v7 (Host.tanh : (⟨S8x1024x20, .f32⟩ : BufTy).Contents (Elt F) → (⟨S8x1024x20, .f32⟩ : BufTy).Contents (Elt F))
  :: StableHlo.binary main_v7 main_arg8 main_v8 ((fun l r => Host.dotGeneral dot_S8x1024x20_S8x1x20_S8x1024x1_2_2_1_1_0_0 none l r) : (⟨S8x1024x20, .f32⟩ : BufTy).Contents (Elt F) → (⟨S8x1x20, .f32⟩ : BufTy).Contents (Elt F) → (⟨S8x1024x1, .f32⟩ : BufTy).Contents (Elt F))
  :: StableHlo.unary main_arg9 main_v9 (broadcastInDim S8x1x1 ![0, 2] bcast_S8x1_S8x1x1_0_2 : (⟨S8x1, .f32⟩ : BufTy).Contents (Elt F) → (⟨S8x1x1, .f32⟩ : BufTy).Contents (Elt F))
  :: StableHlo.unary main_v9 main_v10 (broadcastInDim S8x1024x1 ![0, 1, 2] bcast_S8x1x1_S8x1024x1_0_1_2 : (⟨S8x1x1, .f32⟩ : BufTy).Contents (Elt F) → (⟨S8x1024x1, .f32⟩ : BufTy).Contents (Elt F))
  :: StableHlo.binary main_v8 main_v10 main_v11 (addf : (⟨S8x1024x1, .f32⟩ : BufTy).Contents (Elt F) → (⟨S8x1024x1, .f32⟩ : BufTy).Contents (Elt F) → (⟨S8x1024x1, .f32⟩ : BufTy).Contents (Elt F))
  :: StableHlo.unary main_arg0 main_v12 ((extractStridedSlice S1024x1x64 ![0, 19, 0] · slices_S1024x20x64_S1024x1x64_0_19_0) : (⟨S1024x20x64, .f32⟩ : BufTy).Contents (Elt F) → (⟨S1024x1x64, .f32⟩ : BufTy).Contents (Elt F))
  :: StableHlo.reshape main_v12 main_v13 (rfl : (.f32 : EltTy) = .f32) shapeCasts_S1024x1x64_S1024x64
  :: StableHlo.binary main_v13 main_arg1 main_v14 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F))
  :: StableHlo.unary main_v14 main_values ((fun x => (Host.topK S1024x3 1 (FloatOps.cmpfTotal .gt) x sliceFits_S1024x8_S1024x3).1) : (⟨S1024x8, .f32⟩ : BufTy).Contents (Elt F) → (⟨S1024x3, .f32⟩ : BufTy).Contents (Elt F))
  :: StableHlo.unary main_v14 main_indices ((fun x => (Host.topK S1024x3 1 (FloatOps.cmpfTotal .gt) x sliceFits_S1024x8_S1024x3).2) : (⟨S1024x8, .f32⟩ : BufTy).Contents (Elt F) → (⟨S1024x3, .i32⟩ : BufTy).Contents (Elt F))
  :: StableHlo.unary main_values main_v15 ((extractStridedSlice S1024x2 ![0, 0] · slices_S1024x3_S1024x2_0_0) : (⟨S1024x3, .f32⟩ : BufTy).Contents (Elt F) → (⟨S1024x2, .f32⟩ : BufTy).Contents (Elt F))
  :: StableHlo.unary main_indices main_v16 ((extractStridedSlice S1024x2 ![0, 0] · slices_S1024x3_S1024x2_0_0) : (⟨S1024x3, .i32⟩ : BufTy).Contents (Elt F) → (⟨S1024x2, .i32⟩ : BufTy).Contents (Elt F))
  :: StableHlo.nullary main_cst_0 (constant S_ .f32 0xFF800000#32)
  :: StableHlo.binary main_v15 main_cst_0 main_v17 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F))
  :: StableHlo.nullary main_cst_1 (constant S_ .f32 0xFF800000#32)
  :: StableHlo.unary main_cst_1 main_v18 (broadcastInDim S1024 ![] bcast_S_S1024 : (⟨S_, .f32⟩ : BufTy).Contents (Elt F) → (⟨S1024, .f32⟩ : BufTy).Contents (Elt F))
  :: StableHlo.binary main_v18 main_v17 main_v19 (maximumf : (⟨S1024, .f32⟩ : BufTy).Contents (Elt F) → (⟨S1024, .f32⟩ : BufTy).Contents (Elt F) → (⟨S1024, .f32⟩ : BufTy).Contents (Elt F))
  :: StableHlo.unary main_v19 main_v20 (broadcastInDim S1024x1 ![0] bcast_S1024_S1024x1_0 : (⟨S1024, .f32⟩ : BufTy).Contents (Elt F) → (⟨S1024x1, .f32⟩ : BufTy).Contents (Elt F))
  :: StableHlo.unary main_v20 main_v21 (broadcastInDim S1024x2 ![0, 1] bcast_S1024x1_S1024x2_0_1 : (⟨S1024x1, .f32⟩ : BufTy).Contents (Elt F) → (⟨S1024x2, .f32⟩ : BufTy).Contents (Elt F))
  :: StableHlo.binary main_v15 main_v21 main_v22 (subf : (⟨S1024x2, .f32⟩ : BufTy).Contents (Elt F) → (⟨S1024x2, .f32⟩ : BufTy).Contents (Elt F) → (⟨S1024x2, .f32⟩ : BufTy).Contents (Elt F))
  :: StableHlo.unary main_v22 main_v23 (Host.exp : (⟨S1024x2, .f32⟩ : BufTy).Contents (Elt F) → (⟨S1024x2, .f32⟩ : BufTy).Contents (Elt F))
  :: StableHlo.nullary main_cst_2 (constant S_ .f32 0x00000000#32)
  :: StableHlo.binary main_v23 main_cst_2 main_v24 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F))
  :: StableHlo.unary main_v24 main_v25 (broadcastInDim S1024x1 ![0] bcast_S1024_S1024x1_0 : (⟨S1024, .f32⟩ : BufTy).Contents (Elt F) → (⟨S1024x1, .f32⟩ : BufTy).Contents (Elt F))
  :: StableHlo.unary main_v25 main_v26 (broadcastInDim S1024x2 ![0, 1] bcast_S1024x1_S1024x2_0_1 : (⟨S1024x1, .f32⟩ : BufTy).Contents (Elt F) → (⟨S1024x2, .f32⟩ : BufTy).Contents (Elt F))
  :: StableHlo.binary main_v23 main_v26 main_v27 (Host.divf : (⟨S1024x2, .f32⟩ : BufTy).Contents (Elt F) → (⟨S1024x2, .f32⟩ : BufTy).Contents (Elt F) → (⟨S1024x2, .f32⟩ : BufTy).Contents (Elt F))
  :: StableHlo.nullary main_cst_3 (constant S_ .f32 0x00000000#32)
  :: StableHlo.unary main_cst_3 main_v28 (broadcastInDim S1024x8 ![] bcast_S_S1024x8 : (⟨S_, .f32⟩ : BufTy).Contents (Elt F) → (⟨S1024x8, .f32⟩ : BufTy).Contents (Elt F))
  :: StableHlo.nullary main_v29 (iotaInDim S1024 32 0)
  :: StableHlo.unary main_v29 main_v30 (broadcastInDim S1024x1 ![0] bcast_S1024_S1024x1_0 : (⟨S1024, .i32⟩ : BufTy).Contents (Elt F) → (⟨S1024x1, .i32⟩ : BufTy).Contents (Elt F))
  :: StableHlo.nullary main_c_4 (constantI S_ 32 0#32)
  :: StableHlo.unary main_c_4 main_v31 (broadcastInDim S1024x1 ![] bcast_S_S1024x1 : (⟨S_, .i32⟩ : BufTy).Contents (Elt F) → (⟨S1024x1, .i32⟩ : BufTy).Contents (Elt F))
  :: StableHlo.binary main_v30 main_v31 main_v32 (cmpi .slt : (⟨S1024x1, .i32⟩ : BufTy).Contents (Elt F) → (⟨S1024x1, .i32⟩ : BufTy).Contents (Elt F) → (⟨S1024x1, .i1⟩ : BufTy).Contents (Elt F))
  :: StableHlo.nullary main_c_5 (constantI S_ 32 1024#32)
  :: StableHlo.unary main_c_5 main_v33 (broadcastInDim S1024x1 ![] bcast_S_S1024x1 : (⟨S_, .i32⟩ : BufTy).Contents (Elt F) → (⟨S1024x1, .i32⟩ : BufTy).Contents (Elt F))
  :: StableHlo.binary main_v30 main_v33 main_v34 (addi : (⟨S1024x1, .i32⟩ : BufTy).Contents (Elt F) → (⟨S1024x1, .i32⟩ : BufTy).Contents (Elt F) → (⟨S1024x1, .i32⟩ : BufTy).Contents (Elt F))
  :: StableHlo.ternary main_v32 main_v34 main_v30 main_v35 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F))
  :: StableHlo.nullary main_c_6 (constantI S_ 32 0#32)
  :: StableHlo.unary main_c_6 main_v36 (broadcastInDim S1024x2 ![] bcast_S_S1024x2 : (⟨S_, .i32⟩ : BufTy).Contents (Elt F) → (⟨S1024x2, .i32⟩ : BufTy).Contents (Elt F))
  :: StableHlo.binary main_v16 main_v36 main_v37 (cmpi .slt : (⟨S1024x2, .i32⟩ : BufTy).Contents (Elt F) → (⟨S1024x2, .i32⟩ : BufTy).Contents (Elt F) → (⟨S1024x2, .i1⟩ : BufTy).Contents (Elt F))
  :: StableHlo.nullary main_c_7 (constantI S_ 32 8#32)
  :: StableHlo.unary main_c_7 main_v38 (broadcastInDim S1024x2 ![] bcast_S_S1024x2 : (⟨S_, .i32⟩ : BufTy).Contents (Elt F) → (⟨S1024x2, .i32⟩ : BufTy).Contents (Elt F))
  :: StableHlo.binary main_v16 main_v38 main_v39 (addi : (⟨S1024x2, .i32⟩ : BufTy).Contents (Elt F) → (⟨S1024x2, .i32⟩ : BufTy).Contents (Elt F) → (⟨S1024x2, .i32⟩ : BufTy).Contents (Elt F))
  :: StableHlo.ternary main_v37 main_v39 main_v16 main_v40 (select : (⟨S1024x2, .i1⟩ : BufTy).Contents (Elt F) → (⟨S1024x2, .i32⟩ : BufTy).Contents (Elt F) → (⟨S1024x2, .i32⟩ : BufTy).Contents (Elt F) → (⟨S1024x2, .i32⟩ : BufTy).Contents (Elt F))
  :: StableHlo.unary main_v35 main_v41 (broadcastInDim S1024x2 ![0, 1] bcast_S1024x1_S1024x2_0_1 : (⟨S1024x1, .i32⟩ : BufTy).Contents (Elt F) → (⟨S1024x2, .i32⟩ : BufTy).Contents (Elt F))
  :: StableHlo.unary main_v41 main_v42 (broadcastInDim S1024x2x1 ![0, 1] bcast_S1024x2_S1024x2x1_0_1 : (⟨S1024x2, .i32⟩ : BufTy).Contents (Elt F) → (⟨S1024x2x1, .i32⟩ : BufTy).Contents (Elt F))
  :: StableHlo.unary main_v40 main_v43 (broadcastInDim S1024x2x1 ![0, 1] bcast_S1024x2_S1024x2x1_0_1 : (⟨S1024x2, .i32⟩ : BufTy).Contents (Elt F) → (⟨S1024x2x1, .i32⟩ : BufTy).Contents (Elt F))
  :: StableHlo.binary main_v42 main_v43 main_v44 ((fun a b => concatenate S1024x2x2 2 [⟨S1024x2x1, a⟩, ⟨S1024x2x1, b⟩] concatenates_S1024x2x1_S1024x2x1_S1024x2x2_d2) : (⟨S1024x2x1, .i32⟩ : BufTy).Contents (Elt F) → (⟨S1024x2x1, .i32⟩ : BufTy).Contents (Elt F) → (⟨S1024x2x2, .i32⟩ : BufTy).Contents (Elt F))
  :: StableHlo.ternary main_v28 main_v44 main_v27 main_v45 ((fun x i u => Host.scatter scatter_S1024x8_S1024x2x2_S1024x2_n_01_01_2 (fun _ b => b) x i u) : (⟨S1024x8, .f32⟩ : BufTy).Contents (Elt F) → (⟨S1024x2x2, .i32⟩ : BufTy).Contents (Elt F) → (⟨S1024x2, .f32⟩ : BufTy).Contents (Elt F) → (⟨S1024x8, .f32⟩ : BufTy).Contents (Elt F))
  :: StableHlo.nullary main_cst_8 (constant S_ .f32 0x00000000#32)
  :: StableHlo.binary main_v45 main_cst_8 main_v46 ((fun x v => Host.reduceAdd x v reducesTo_S1024x8_S8_d0 h_S_) : (⟨S1024x8, .f32⟩ : BufTy).Contents (Elt F) → (⟨S_, .f32⟩ : BufTy).Contents (Elt F) → (⟨S8, .f32⟩ : BufTy).Contents (Elt F))
  :: StableHlo.nullary main_cst_9 (constant S_ .f32 0x00000000#32)
  :: StableHlo.unary main_cst_9 main_v47 (broadcastInDim S1024x8 ![] bcast_S_S1024x8 : (⟨S_, .f32⟩ : BufTy).Contents (Elt F) → (⟨S1024x8, .f32⟩ : BufTy).Contents (Elt F))
  :: StableHlo.binary main_v45 main_v47 main_v48 (cmpf .ogt : (⟨S1024x8, .f32⟩ : BufTy).Contents (Elt F) → (⟨S1024x8, .f32⟩ : BufTy).Contents (Elt F) → (⟨S1024x8, .i1⟩ : BufTy).Contents (Elt F))
  :: StableHlo.unary main_v48 main_v49 ((extui 32 · natLt_1_32) : (⟨S1024x8, .i1⟩ : BufTy).Contents (Elt F) → (⟨S1024x8, .i32⟩ : BufTy).Contents (Elt F))
  :: StableHlo.nullary main_c_10 (constantI S_ 32 0#32)
  :: StableHlo.binary main_v49 main_c_10 main_v50 ((fun x v => Host.reduce IntOp.addi x v reducesTo_S1024x8_S8_d0 h_S_) : (⟨S1024x8, .i32⟩ : BufTy).Contents (Elt F) → (⟨S_, .i32⟩ : BufTy).Contents (Elt F) → (⟨S8, .i32⟩ : BufTy).Contents (Elt F))
  :: StableHlo.nullary main_c_11 (constantI S_ 32 1#32)
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub ..⟩
/-- 20 host operations of @_var (main_call1), in order. -/
abbrev hostOps0_2 : List (HloOp τ sig (Elt F)) :=
  [ StableHlo.TRef.nullary (.of main_call1_cst : StableHlo.TRef sig ⟨S_, .f32⟩) (constant S_ .f32 0x00000000#32),
    StableHlo.TRef.binary (.of main_v46 : StableHlo.TRef sig ⟨S8, .f32⟩) (.of main_call1_cst : StableHlo.TRef sig ⟨S_, .f32⟩) (.of main_call1_v0 : StableHlo.TRef sig ⟨S_, .f32⟩) (fun x v => Host.reduceAdd x v reducesTo_S8_S_d0 h_S_),
    StableHlo.TRef.unary (.of main_call1_v0 : StableHlo.TRef sig ⟨S_, .f32⟩) (.of main_call1_v1 : StableHlo.TRef sig ⟨S1, .f32⟩) (broadcastInDim S1 ![] bcast_S_S1),
    StableHlo.TRef.nullary (.of main_call1_cst_0 : StableHlo.TRef sig ⟨S_, .f32⟩) (constant S_ .f32 0x41000000#32),
    StableHlo.TRef.unary (.of main_call1_cst_0 : StableHlo.TRef sig ⟨S_, .f32⟩) (.of main_call1_v2 : StableHlo.TRef sig ⟨S1, .f32⟩) (broadcastInDim S1 ![] bcast_S_S1),
    StableHlo.TRef.binary (.of main_call1_v1 : StableHlo.TRef sig ⟨S1, .f32⟩) (.of main_call1_v2 : StableHlo.TRef sig ⟨S1, .f32⟩) (.of main_call1_v3 : StableHlo.TRef sig ⟨S1, .f32⟩) Host.divf,
    StableHlo.TRef.unary (.of main_call1_v3 : StableHlo.TRef sig ⟨S1, .f32⟩) (.of main_call1_v4 : StableHlo.TRef sig ⟨S8, .f32⟩) (broadcastInDim S8 ![0] bcast_S1_S8_0),
    StableHlo.TRef.binary (.of main_v46 : StableHlo.TRef sig ⟨S8, .f32⟩) (.of main_call1_v4 : StableHlo.TRef sig ⟨S8, .f32⟩) (.of main_call1_v5 : StableHlo.TRef sig ⟨S8, .f32⟩) subf,
    StableHlo.TRef.binary (.of main_call1_v5 : StableHlo.TRef sig ⟨S8, .f32⟩) (.of main_call1_v5 : StableHlo.TRef sig ⟨S8, .f32⟩) (.of main_call1_v6 : StableHlo.TRef sig ⟨S8, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x41000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8, .f32⟩) (.of main_call1_cst_2 : StableHlo.TRef sig ⟨S_, .f32⟩) (.of main_call1_v9 : StableHlo.TRef sig ⟨S_, .f32⟩) (fun x v => Host.reduceAdd x v reducesTo_S8_S_d0 h_S_),
    StableHlo.TRef.binary (.of main_call1_v9 : StableHlo.TRef sig ⟨S_, .f32⟩) (.of main_call1_v8 : StableHlo.TRef sig ⟨S_, .f32⟩) (.of main_call1_v10 : StableHlo.TRef sig ⟨S_, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v11 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.ternary (.of main_call1_v11 : StableHlo.TRef sig ⟨S_, .i1⟩) (.of main_call1_v10 : StableHlo.TRef sig ⟨S_, .f32⟩) (.of main_call1_call0_v0 : StableHlo.TRef sig ⟨S_, .f32⟩) (.of main_v51 : StableHlo.TRef sig ⟨S_, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub ..⟩
/-- 10 host operations of @main, in order. -/
abbrev hostOps0_3 : List (HloOp τ sig (Elt F)) :=
  [ StableHlo.nullary main_cst_12 (constant S_ .f32 0x00000000#32),
    StableHlo.binary main_v46 main_cst_12 main_v52 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_13 (constant S_ .f32 0x41000000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)),
    StableHlo.binary main_v53 main_v53 main_v54 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x2EDBE6FF#32),
    StableHlo.binary main_v54 main_cst_14 main_v55 (addf : (⟨S_, .f32⟩ : BufTy).Contents (Elt F) → (⟨S_, .f32⟩ : BufTy).Contents (Elt F) → (⟨S_, .f32⟩ : BufTy).Contents (Elt F)),
    StableHlo.binary main_v51 main_v55 main_v56 (Host.divf : (⟨S_, .f32⟩ : BufTy).Contents (Elt F) → (⟨S_, .f32⟩ : BufTy).Contents (Elt F) → (⟨S_, .f32⟩ : BufTy).Contents (Elt F)),
    StableHlo.unary main_v50 main_v57 (sitofp .f32 : (⟨S8, .i32⟩ : BufTy).Contents (Elt F) → (⟨S8, .f32⟩ : BufTy).Contents (Elt F)),
    StableHlo.nullary main_c_15 (constantI S_ 32 1#32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub ..⟩
/-- 20 host operations of @_var (main_call2), in order. -/
abbrev hostOps0_4 : List (HloOp τ sig (Elt F)) :=
  [ StableHlo.TRef.nullary (.of main_call2_cst : StableHlo.TRef sig ⟨S_, .f32⟩) (constant S_ .f32 0x00000000#32),
    StableHlo.TRef.binary (.of main_v57 : StableHlo.TRef sig ⟨S8, .f32⟩) (.of main_call2_cst : StableHlo.TRef sig ⟨S_, .f32⟩) (.of main_call2_v0 : StableHlo.TRef sig ⟨S_, .f32⟩) (fun x v => Host.reduceAdd x v reducesTo_S8_S_d0 h_S_),
    StableHlo.TRef.unary (.of main_call2_v0 : StableHlo.TRef sig ⟨S_, .f32⟩) (.of main_call2_v1 : StableHlo.TRef sig ⟨S1, .f32⟩) (broadcastInDim S1 ![] bcast_S_S1),
    StableHlo.TRef.nullary (.of main_call2_cst_0 : StableHlo.TRef sig ⟨S_, .f32⟩) (constant S_ .f32 0x41000000#32),
    StableHlo.TRef.unary (.of main_call2_cst_0 : StableHlo.TRef sig ⟨S_, .f32⟩) (.of main_call2_v2 : StableHlo.TRef sig ⟨S1, .f32⟩) (broadcastInDim S1 ![] bcast_S_S1),
    StableHlo.TRef.binary (.of main_call2_v1 : StableHlo.TRef sig ⟨S1, .f32⟩) (.of main_call2_v2 : StableHlo.TRef sig ⟨S1, .f32⟩) (.of main_call2_v3 : StableHlo.TRef sig ⟨S1, .f32⟩) Host.divf,
    StableHlo.TRef.unary (.of main_call2_v3 : StableHlo.TRef sig ⟨S1, .f32⟩) (.of main_call2_v4 : StableHlo.TRef sig ⟨S8, .f32⟩) (broadcastInDim S8 ![0] bcast_S1_S8_0),
    StableHlo.TRef.binary (.of main_v57 : StableHlo.TRef sig ⟨S8, .f32⟩) (.of main_call2_v4 : StableHlo.TRef sig ⟨S8, .f32⟩) (.of main_call2_v5 : StableHlo.TRef sig ⟨S8, .f32⟩) subf,
    StableHlo.TRef.binary (.of main_call2_v5 : StableHlo.TRef sig ⟨S8, .f32⟩) (.of main_call2_v5 : StableHlo.TRef sig ⟨S8, .f32⟩) (.of main_call2_v6 : StableHlo.TRef sig ⟨S8, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x41000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8, .f32⟩) (.of main_call2_cst_2 : StableHlo.TRef sig ⟨S_, .f32⟩) (.of main_call2_v9 : StableHlo.TRef sig ⟨S_, .f32⟩) (fun x v => Host.reduceAdd x v reducesTo_S8_S_d0 h_S_),
    StableHlo.TRef.binary (.of main_call2_v9 : StableHlo.TRef sig ⟨S_, .f32⟩) (.of main_call2_v8 : StableHlo.TRef sig ⟨S_, .f32⟩) (.of main_call2_v10 : StableHlo.TRef sig ⟨S_, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v11 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.ternary (.of main_call2_v11 : StableHlo.TRef sig ⟨S_, .i1⟩) (.of main_call2_v10 : StableHlo.TRef sig ⟨S_, .f32⟩) (.of main_call2_call0_v0 : StableHlo.TRef sig ⟨S_, .f32⟩) (.of main_v58 : StableHlo.TRef sig ⟨S_, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub ..⟩
/-- 13 host operations of @main, in order. -/
abbrev hostOps0_5 : List (HloOp τ sig (Elt F)) :=
  [ StableHlo.nullary main_cst_16 (constant S_ .f32 0x00000000#32),
    StableHlo.binary main_v57 main_cst_16 main_v59 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_17 (constant S_ .f32 0x41000000#32),
    StableHlo.binary main_v59 main_cst_17 main_v60 (Host.divf : (⟨S_, .f32⟩ : BufTy).Contents (Elt F) → (⟨S_, .f32⟩ : BufTy).Contents (Elt F) → (⟨S_, .f32⟩ : BufTy).Contents (Elt F)),
    StableHlo.binary main_v60 main_v60 main_v61 (mulf : (⟨S_, .f32⟩ : BufTy).Contents (Elt F) → (⟨S_, .f32⟩ : BufTy).Contents (Elt F) → (⟨S_, .f32⟩ : BufTy).Contents (Elt F)),
    StableHlo.nullary main_cst_18 (constant S_ .f32 0x2EDBE6FF#32),
    StableHlo.binary main_v61 main_cst_18 main_v62 (addf : (⟨S_, .f32⟩ : BufTy).Contents (Elt F) → (⟨S_, .f32⟩ : BufTy).Contents (Elt F) → (⟨S_, .f32⟩ : BufTy).Contents (Elt F)),
    StableHlo.binary main_v58 main_v62 main_v63 (Host.divf : (⟨S_, .f32⟩ : BufTy).Contents (Elt F) → (⟨S_, .f32⟩ : BufTy).Contents (Elt F) → (⟨S_, .f32⟩ : BufTy).Contents (Elt F)),
    StableHlo.binary main_v56 main_v63 main_v64 (addf : (⟨S_, .f32⟩ : BufTy).Contents (Elt F) → (⟨S_, .f32⟩ : BufTy).Contents (Elt F) → (⟨S_, .f32⟩ : BufTy).Contents (Elt F)),
    StableHlo.nullary main_cst_19 (constant S_ .f32 0x3C23D70A#32),
    StableHlo.binary main_v64 main_cst_19 main_v65 (mulf : (⟨S_, .f32⟩ : BufTy).Contents (Elt F) → (⟨S_, .f32⟩ : BufTy).Contents (Elt F) → (⟨S_, .f32⟩ : BufTy).Contents (Elt F)),
    StableHlo.binary main_v45 main_v11 main_v66 ((fun l r => Host.dotGeneral dot_S1024x8_S8x1024x1_S1024x1_1_0_n_2_0_1 none l r) : (⟨S1024x8, .f32⟩ : BufTy).Contents (Elt F) → (⟨S8x1024x1, .f32⟩ : BufTy).Contents (Elt F) → (⟨S1024x1, .f32⟩ : BufTy).Contents (Elt F)),
    StableHlo.reshape main_v65 main_v67 (rfl : (.f32 : EltTy) = .f32) shapeCasts_S_S1x1 ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.reshape_bufs_sub ..⟩
/-- 11 host operations of @main, window 0 (statements 1 … 60), in order. -/
abbrev main_part0_ops0 : List (HloOp τ sig (Elt F)) :=
  [ StableHlo.unary main_arg0 main_v0 ((transpose S20x1024x64 [1, 0, 2] · transposes_S1024x20x64_S20x1024x64_1_0_2) : (⟨S1024x20x64, .f32⟩ : BufTy).Contents (Elt F) → (⟨S20x1024x64, .f32⟩ : BufTy).Contents (Elt F)),
    StableHlo.nullary main_cst (constant S_ .f32 0x00000000#32),
    StableHlo.unary main_cst main_v1 (broadcastInDim S8x1024x64 ![] bcast_S_S8x1024x64 : (⟨S_, .f32⟩ : BufTy).Contents (Elt F) → (⟨S8x1024x64, .f32⟩ : BufTy).Contents (Elt F)),
    StableHlo.nullary main_c (constantI S_ 32 0#32),
    StableHlo.unary main_v0 main_v2_0 id,
    StableHlo.unary main_arg2 main_v2_1 id,
    StableHlo.unary main_arg3 main_v2_2 id,
    StableHlo.unary main_arg4 main_v2_3 id,
    StableHlo.unary main_arg5 main_v2_4 id,
    StableHlo.unary main_c main_v2_5 id,
    StableHlo.unary main_v1 main_v2_6 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 48 host operations of @main, window 0 (statements 1 … 60), in order. -/
abbrev main_part0_ops1 : List (HloOp τ sig (Elt F)) :=
  ( StableHlo.binary main_v2_6 main_arg6 main_v3 ((fun l r => Host.dotGeneral dot_S8x1024x64_S8x20x64_S8x1024x20_2_2_1_1_0_0 none l r) : (⟨S8x1024x64, .f32⟩ : BufTy).Contents (Elt F) → (⟨S8x20x64, .f32⟩ : BufTy).Contents (Elt F) → (⟨S8x1024x20, .f32⟩ : BufTy).Contents (Elt F))
  :: StableHlo.unary main_arg7 main_v4 (broadcastInDim S8x1x20 ![0, 2] bcast_S8x20_S8x1x20_0_2 : (⟨S8x20, .f32⟩ : BufTy).Contents (Elt F) → (⟨S8x1x20, .f32⟩ : BufTy).Contents (Elt F))
  :: StableHlo.unary main_v4 main_v5 (broadcastInDim S8x1024x20 ![0, 1, 2] bcast_S8x1x20_S8x1024x20_0_1_2 : (⟨S8x1x20, .f32⟩ : BufTy).Contents (Elt F) → (⟨S8x1024x20, .f32⟩ : BufTy).Contents (Elt F))
  :: StableHlo.binary main_v3 main_v5 main_v6 (addf : (⟨S8x1024x20, .f32⟩ : BufTy).Contents (Elt F) → (⟨S8x1024x20, .f32⟩ : BufTy).Contents (Elt F) → (⟨S8x1024x20, .f32⟩ : BufTy).Contents (Elt F))
  :: StableHlo.unary main_v6 main_v7 (Host.tanh : (⟨S8x1024x20, .f32⟩ : BufTy).Contents (Elt F) → (⟨S8x1024x20, .f32⟩ : BufTy).Contents (Elt F))
  :: StableHlo.binary main_v7 main_arg8 main_v8 ((fun l r => Host.dotGeneral dot_S8x1024x20_S8x1x20_S8x1024x1_2_2_1_1_0_0 none l r) : (⟨S8x1024x20, .f32⟩ : BufTy).Contents (Elt F) → (⟨S8x1x20, .f32⟩ : BufTy).Contents (Elt F) → (⟨S8x1024x1, .f32⟩ : BufTy).Contents (Elt F))
  :: StableHlo.unary main_arg9 main_v9 (broadcastInDim S8x1x1 ![0, 2] bcast_S8x1_S8x1x1_0_2 : (⟨S8x1, .f32⟩ : BufTy).Contents (Elt F) → (⟨S8x1x1, .f32⟩ : BufTy).Contents (Elt F))
  :: StableHlo.unary main_v9 main_v10 (broadcastInDim S8x1024x1 ![0, 1, 2] bcast_S8x1x1_S8x1024x1_0_1_2 : (⟨S8x1x1, .f32⟩ : BufTy).Contents (Elt F) → (⟨S8x1024x1, .f32⟩ : BufTy).Contents (Elt F))
  :: StableHlo.binary main_v8 main_v10 main_v11 (addf : (⟨S8x1024x1, .f32⟩ : BufTy).Contents (Elt F) → (⟨S8x1024x1, .f32⟩ : BufTy).Contents (Elt F) → (⟨S8x1024x1, .f32⟩ : BufTy).Contents (Elt F))
  :: StableHlo.unary main_arg0 main_v12 ((extractStridedSlice S1024x1x64 ![0, 19, 0] · slices_S1024x20x64_S1024x1x64_0_19_0) : (⟨S1024x20x64, .f32⟩ : BufTy).Contents (Elt F) → (⟨S1024x1x64, .f32⟩ : BufTy).Contents (Elt F))
  :: StableHlo.reshape main_v12 main_v13 (rfl : (.f32 : EltTy) = .f32) shapeCasts_S1024x1x64_S1024x64
  :: StableHlo.binary main_v13 main_arg1 main_v14 ((fun l r => Host.dotGeneral dot_S1024x64_S64x8_S1024x8_1_0_0_1_n_n none l r) : (⟨S1024x64, .f32⟩ : BufTy).Contents (Elt F) → (⟨S64x8, .f32⟩ : BufTy).Contents (Elt F) → (⟨S1024x8, .f32⟩ : BufTy).Contents (Elt F))
  :: StableHlo.unary main_v14 main_values ((fun x => (Host.topK S1024x3 1 (FloatOps.cmpfTotal .gt) x sliceFits_S1024x8_S1024x3).1) : (⟨S1024x8, .f32⟩ : BufTy).Contents (Elt F) → (⟨S1024x3, .f32⟩ : BufTy).Contents (Elt F))
  :: StableHlo.unary main_v14 main_indices ((fun x => (Host.topK S1024x3 1 (FloatOps.cmpfTotal .gt) x sliceFits_S1024x8_S1024x3).2) : (⟨S1024x8, .f32⟩ : BufTy).Contents (Elt F) → (⟨S1024x3, .i32⟩ : BufTy).Contents (Elt F))
  :: StableHlo.unary main_values main_v15 ((extractStridedSlice S1024x2 ![0, 0] · slices_S1024x3_S1024x2_0_0) : (⟨S1024x3, .f32⟩ : BufTy).Contents (Elt F) → (⟨S1024x2, .f32⟩ : BufTy).Contents (Elt F))
  :: StableHlo.unary main_indices main_v16 ((extractStridedSlice S1024x2 ![0, 0] · slices_S1024x3_S1024x2_0_0) : (⟨S1024x3, .i32⟩ : BufTy).Contents (Elt F) → (⟨S1024x2, .i32⟩ : BufTy).Contents (Elt F))
  :: StableHlo.nullary main_cst_0 (constant S_ .f32 0xFF800000#32)
  :: StableHlo.binary main_v15 main_cst_0 main_v17 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F))
  :: StableHlo.nullary main_cst_1 (constant S_ .f32 0xFF800000#32)
  :: StableHlo.unary main_cst_1 main_v18 (broadcastInDim S1024 ![] bcast_S_S1024 : (⟨S_, .f32⟩ : BufTy).Contents (Elt F) → (⟨S1024, .f32⟩ : BufTy).Contents (Elt F))
  :: StableHlo.binary main_v18 main_v17 main_v19 (maximumf : (⟨S1024, .f32⟩ : BufTy).Contents (Elt F) → (⟨S1024, .f32⟩ : BufTy).Contents (Elt F) → (⟨S1024, .f32⟩ : BufTy).Contents (Elt F))
  :: StableHlo.unary main_v19 main_v20 (broadcastInDim S1024x1 ![0] bcast_S1024_S1024x1_0 : (⟨S1024, .f32⟩ : BufTy).Contents (Elt F) → (⟨S1024x1, .f32⟩ : BufTy).Contents (Elt F))
  :: StableHlo.unary main_v20 main_v21 (broadcastInDim S1024x2 ![0, 1] bcast_S1024x1_S1024x2_0_1 : (⟨S1024x1, .f32⟩ : BufTy).Contents (Elt F) → (⟨S1024x2, .f32⟩ : BufTy).Contents (Elt F))
  :: StableHlo.binary main_v15 main_v21 main_v22 (subf : (⟨S1024x2, .f32⟩ : BufTy).Contents (Elt F) → (⟨S1024x2, .f32⟩ : BufTy).Contents (Elt F) → (⟨S1024x2, .f32⟩ : BufTy).Contents (Elt F))
  :: StableHlo.unary main_v22 main_v23 (Host.exp : (⟨S1024x2, .f32⟩ : BufTy).Contents (Elt F) → (⟨S1024x2, .f32⟩ : BufTy).Contents (Elt F))
  :: StableHlo.nullary main_cst_2 (constant S_ .f32 0x00000000#32)
  :: StableHlo.binary main_v23 main_cst_2 main_v24 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F))
  :: StableHlo.unary main_v24 main_v25 (broadcastInDim S1024x1 ![0] bcast_S1024_S1024x1_0 : (⟨S1024, .f32⟩ : BufTy).Contents (Elt F) → (⟨S1024x1, .f32⟩ : BufTy).Contents (Elt F))
  :: StableHlo.unary main_v25 main_v26 (broadcastInDim S1024x2 ![0, 1] bcast_S1024x1_S1024x2_0_1 : (⟨S1024x1, .f32⟩ : BufTy).Contents (Elt F) → (⟨S1024x2, .f32⟩ : BufTy).Contents (Elt F))
  :: StableHlo.binary main_v23 main_v26 main_v27 (Host.divf : (⟨S1024x2, .f32⟩ : BufTy).Contents (Elt F) → (⟨S1024x2, .f32⟩ : BufTy).Contents (Elt F) → (⟨S1024x2, .f32⟩ : BufTy).Contents (Elt F))
  :: StableHlo.nullary main_cst_3 (constant S_ .f32 0x00000000#32)
  :: StableHlo.unary main_cst_3 main_v28 (broadcastInDim S1024x8 ![] bcast_S_S1024x8 : (⟨S_, .f32⟩ : BufTy).Contents (Elt F) → (⟨S1024x8, .f32⟩ : BufTy).Contents (Elt F))
  :: StableHlo.nullary main_v29 (iotaInDim S1024 32 0)
  :: StableHlo.unary main_v29 main_v30 (broadcastInDim S1024x1 ![0] bcast_S1024_S1024x1_0 : (⟨S1024, .i32⟩ : BufTy).Contents (Elt F) → (⟨S1024x1, .i32⟩ : BufTy).Contents (Elt F))
  :: StableHlo.nullary main_c_4 (constantI S_ 32 0#32)
  :: StableHlo.unary main_c_4 main_v31 (broadcastInDim S1024x1 ![] bcast_S_S1024x1 : (⟨S_, .i32⟩ : BufTy).Contents (Elt F) → (⟨S1024x1, .i32⟩ : BufTy).Contents (Elt F))
  :: StableHlo.binary main_v30 main_v31 main_v32 (cmpi .slt : (⟨S1024x1, .i32⟩ : BufTy).Contents (Elt F) → (⟨S1024x1, .i32⟩ : BufTy).Contents (Elt F) → (⟨S1024x1, .i1⟩ : BufTy).Contents (Elt F))
  :: StableHlo.nullary main_c_5 (constantI S_ 32 1024#32)
  :: StableHlo.unary main_c_5 main_v33 (broadcastInDim S1024x1 ![] bcast_S_S1024x1 : (⟨S_, .i32⟩ : BufTy).Contents (Elt F) → (⟨S1024x1, .i32⟩ : BufTy).Contents (Elt F))
  :: StableHlo.binary main_v30 main_v33 main_v34 (addi : (⟨S1024x1, .i32⟩ : BufTy).Contents (Elt F) → (⟨S1024x1, .i32⟩ : BufTy).Contents (Elt F) → (⟨S1024x1, .i32⟩ : BufTy).Contents (Elt F))
  :: StableHlo.ternary main_v32 main_v34 main_v30 main_v35 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F))
  :: StableHlo.nullary main_c_6 (constantI S_ 32 0#32)
  :: StableHlo.unary main_c_6 main_v36 (broadcastInDim S1024x2 ![] bcast_S_S1024x2 : (⟨S_, .i32⟩ : BufTy).Contents (Elt F) → (⟨S1024x2, .i32⟩ : BufTy).Contents (Elt F))
  :: StableHlo.binary main_v16 main_v36 main_v37 (cmpi .slt : (⟨S1024x2, .i32⟩ : BufTy).Contents (Elt F) → (⟨S1024x2, .i32⟩ : BufTy).Contents (Elt F) → (⟨S1024x2, .i1⟩ : BufTy).Contents (Elt F))
  :: StableHlo.nullary main_c_7 (constantI S_ 32 8#32)
  :: StableHlo.unary main_c_7 main_v38 (broadcastInDim S1024x2 ![] bcast_S_S1024x2 : (⟨S_, .i32⟩ : BufTy).Contents (Elt F) → (⟨S1024x2, .i32⟩ : BufTy).Contents (Elt F))
  :: StableHlo.binary main_v16 main_v38 main_v39 (addi : (⟨S1024x2, .i32⟩ : BufTy).Contents (Elt F) → (⟨S1024x2, .i32⟩ : BufTy).Contents (Elt F) → (⟨S1024x2, .i32⟩ : BufTy).Contents (Elt F))
  :: StableHlo.ternary main_v37 main_v39 main_v16 main_v40 (select : (⟨S1024x2, .i1⟩ : BufTy).Contents (Elt F) → (⟨S1024x2, .i32⟩ : BufTy).Contents (Elt F) → (⟨S1024x2, .i32⟩ : BufTy).Contents (Elt F) → (⟨S1024x2, .i32⟩ : BufTy).Contents (Elt F))
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 14 host operations of @main, window 1 (statements 61 … 100), in order. -/
abbrev main_part1_ops0 : List (HloOp τ sig (Elt F)) :=
  [ StableHlo.unary main_v35 main_v41 (broadcastInDim S1024x2 ![0, 1] bcast_S1024x1_S1024x2_0_1 : (⟨S1024x1, .i32⟩ : BufTy).Contents (Elt F) → (⟨S1024x2, .i32⟩ : BufTy).Contents (Elt F)),
    StableHlo.unary main_v41 main_v42 (broadcastInDim S1024x2x1 ![0, 1] bcast_S1024x2_S1024x2x1_0_1 : (⟨S1024x2, .i32⟩ : BufTy).Contents (Elt F) → (⟨S1024x2x1, .i32⟩ : BufTy).Contents (Elt F)),
    StableHlo.unary main_v40 main_v43 (broadcastInDim S1024x2x1 ![0, 1] bcast_S1024x2_S1024x2x1_0_1 : (⟨S1024x2, .i32⟩ : BufTy).Contents (Elt F) → (⟨S1024x2x1, .i32⟩ : BufTy).Contents (Elt F)),
    StableHlo.binary main_v42 main_v43 main_v44 ((fun a b => concatenate S1024x2x2 2 [⟨S1024x2x1, a⟩, ⟨S1024x2x1, b⟩] concatenates_S1024x2x1_S1024x2x1_S1024x2x2_d2) : (⟨S1024x2x1, .i32⟩ : BufTy).Contents (Elt F) → (⟨S1024x2x1, .i32⟩ : BufTy).Contents (Elt F) → (⟨S1024x2x2, .i32⟩ : BufTy).Contents (Elt F)),
    StableHlo.ternary main_v28 main_v44 main_v27 main_v45 ((fun x i u => Host.scatter scatter_S1024x8_S1024x2x2_S1024x2_n_01_01_2 (fun _ b => b) x i u) : (⟨S1024x8, .f32⟩ : BufTy).Contents (Elt F) → (⟨S1024x2x2, .i32⟩ : BufTy).Contents (Elt F) → (⟨S1024x2, .f32⟩ : BufTy).Contents (Elt F) → (⟨S1024x8, .f32⟩ : BufTy).Contents (Elt F)),
    StableHlo.nullary main_cst_8 (constant S_ .f32 0x00000000#32),
    StableHlo.binary main_v45 main_cst_8 main_v46 ((fun x v => Host.reduceAdd x v reducesTo_S1024x8_S8_d0 h_S_) : (⟨S1024x8, .f32⟩ : BufTy).Contents (Elt F) → (⟨S_, .f32⟩ : BufTy).Contents (Elt F) → (⟨S8, .f32⟩ : BufTy).Contents (Elt F)),
    StableHlo.nullary main_cst_9 (constant S_ .f32 0x00000000#32),
    StableHlo.unary main_cst_9 main_v47 (broadcastInDim S1024x8 ![] bcast_S_S1024x8 : (⟨S_, .f32⟩ : BufTy).Contents (Elt F) → (⟨S1024x8, .f32⟩ : BufTy).Contents (Elt F)),
    StableHlo.binary main_v45 main_v47 main_v48 (cmpf .ogt : (⟨S1024x8, .f32⟩ : BufTy).Contents (Elt F) → (⟨S1024x8, .f32⟩ : BufTy).Contents (Elt F) → (⟨S1024x8, .i1⟩ : BufTy).Contents (Elt F)),
    StableHlo.unary main_v48 main_v49 ((extui 32 · natLt_1_32) : (⟨S1024x8, .i1⟩ : BufTy).Contents (Elt F) → (⟨S1024x8, .i32⟩ : BufTy).Contents (Elt F)),
    StableHlo.nullary main_c_10 (constantI S_ 32 0#32),
    StableHlo.binary main_v49 main_c_10 main_v50 ((fun x v => Host.reduce IntOp.addi x v reducesTo_S1024x8_S8_d0 h_S_) : (⟨S1024x8, .i32⟩ : BufTy).Contents (Elt F) → (⟨S_, .i32⟩ : BufTy).Contents (Elt F) → (⟨S8, .i32⟩ : BufTy).Contents (Elt F)),
    StableHlo.nullary main_c_11 (constantI S_ 32 1#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub ..⟩
/-- 20 host operations of @_var (main_call1), window 1 (statements 61 … 100), in order. -/
abbrev main_part1_ops1 : List (HloOp τ sig (Elt F)) :=
  [ StableHlo.TRef.nullary (.of main_call1_cst : StableHlo.TRef sig ⟨S_, .f32⟩) (constant S_ .f32 0x00000000#32),
    StableHlo.TRef.binary (.of main_v46 : StableHlo.TRef sig ⟨S8, .f32⟩) (.of main_call1_cst : StableHlo.TRef sig ⟨S_, .f32⟩) (.of main_call1_v0 : StableHlo.TRef sig ⟨S_, .f32⟩) (fun x v => Host.reduceAdd x v reducesTo_S8_S_d0 h_S_),
    StableHlo.TRef.unary (.of main_call1_v0 : StableHlo.TRef sig ⟨S_, .f32⟩) (.of main_call1_v1 : StableHlo.TRef sig ⟨S1, .f32⟩) (broadcastInDim S1 ![] bcast_S_S1),
    StableHlo.TRef.nullary (.of main_call1_cst_0 : StableHlo.TRef sig ⟨S_, .f32⟩) (constant S_ .f32 0x41000000#32),
    StableHlo.TRef.unary (.of main_call1_cst_0 : StableHlo.TRef sig ⟨S_, .f32⟩) (.of main_call1_v2 : StableHlo.TRef sig ⟨S1, .f32⟩) (broadcastInDim S1 ![] bcast_S_S1),
    StableHlo.TRef.binary (.of main_call1_v1 : StableHlo.TRef sig ⟨S1, .f32⟩) (.of main_call1_v2 : StableHlo.TRef sig ⟨S1, .f32⟩) (.of main_call1_v3 : StableHlo.TRef sig ⟨S1, .f32⟩) Host.divf,
    StableHlo.TRef.unary (.of main_call1_v3 : StableHlo.TRef sig ⟨S1, .f32⟩) (.of main_call1_v4 : StableHlo.TRef sig ⟨S8, .f32⟩) (broadcastInDim S8 ![0] bcast_S1_S8_0),
    StableHlo.TRef.binary (.of main_v46 : StableHlo.TRef sig ⟨S8, .f32⟩) (.of main_call1_v4 : StableHlo.TRef sig ⟨S8, .f32⟩) (.of main_call1_v5 : StableHlo.TRef sig ⟨S8, .f32⟩) subf,
    StableHlo.TRef.binary (.of main_call1_v5 : StableHlo.TRef sig ⟨S8, .f32⟩) (.of main_call1_v5 : StableHlo.TRef sig ⟨S8, .f32⟩) (.of main_call1_v6 : StableHlo.TRef sig ⟨S8, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x41000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8, .f32⟩) (.of main_call1_cst_2 : StableHlo.TRef sig ⟨S_, .f32⟩) (.of main_call1_v9 : StableHlo.TRef sig ⟨S_, .f32⟩) (fun x v => Host.reduceAdd x v reducesTo_S8_S_d0 h_S_),
    StableHlo.TRef.binary (.of main_call1_v9 : StableHlo.TRef sig ⟨S_, .f32⟩) (.of main_call1_v8 : StableHlo.TRef sig ⟨S_, .f32⟩) (.of main_call1_v10 : StableHlo.TRef sig ⟨S_, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v11 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.ternary (.of main_call1_v11 : StableHlo.TRef sig ⟨S_, .i1⟩) (.of main_call1_v10 : StableHlo.TRef sig ⟨S_, .f32⟩) (.of main_call1_call0_v0 : StableHlo.TRef sig ⟨S_, .f32⟩) (.of main_v51 : StableHlo.TRef sig ⟨S_, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub ..⟩
/-- 10 host operations of @main, window 1 (statements 61 … 100), in order. -/
abbrev main_part1_ops2 : List (HloOp τ sig (Elt F)) :=
  [ StableHlo.nullary main_cst_12 (constant S_ .f32 0x00000000#32),
    StableHlo.binary main_v46 main_cst_12 main_v52 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_13 (constant S_ .f32 0x41000000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)),
    StableHlo.binary main_v53 main_v53 main_v54 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x2EDBE6FF#32),
    StableHlo.binary main_v54 main_cst_14 main_v55 (addf : (⟨S_, .f32⟩ : BufTy).Contents (Elt F) → (⟨S_, .f32⟩ : BufTy).Contents (Elt F) → (⟨S_, .f32⟩ : BufTy).Contents (Elt F)),
    StableHlo.binary main_v51 main_v55 main_v56 (Host.divf : (⟨S_, .f32⟩ : BufTy).Contents (Elt F) → (⟨S_, .f32⟩ : BufTy).Contents (Elt F) → (⟨S_, .f32⟩ : BufTy).Contents (Elt F)),
    StableHlo.unary main_v50 main_v57 (sitofp .f32 : (⟨S8, .i32⟩ : BufTy).Contents (Elt F) → (⟨S8, .f32⟩ : BufTy).Contents (Elt F)),
    StableHlo.nullary main_c_15 (constantI S_ 32 1#32) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub ..⟩
/-- 20 host operations of @_var (main_call2), window 1 (statements 61 … 100), in order. -/
abbrev main_part1_ops3 : List (HloOp τ sig (Elt F)) :=
  [ StableHlo.TRef.nullary (.of main_call2_cst : StableHlo.TRef sig ⟨S_, .f32⟩) (constant S_ .f32 0x00000000#32),
    StableHlo.TRef.binary (.of main_v57 : StableHlo.TRef sig ⟨S8, .f32⟩) (.of main_call2_cst : StableHlo.TRef sig ⟨S_, .f32⟩) (.of main_call2_v0 : StableHlo.TRef sig ⟨S_, .f32⟩) (fun x v => Host.reduceAdd x v reducesTo_S8_S_d0 h_S_),
    StableHlo.TRef.unary (.of main_call2_v0 : StableHlo.TRef sig ⟨S_, .f32⟩) (.of main_call2_v1 : StableHlo.TRef sig ⟨S1, .f32⟩) (broadcastInDim S1 ![] bcast_S_S1),
    StableHlo.TRef.nullary (.of main_call2_cst_0 : StableHlo.TRef sig ⟨S_, .f32⟩) (constant S_ .f32 0x41000000#32),
    StableHlo.TRef.unary (.of main_call2_cst_0 : StableHlo.TRef sig ⟨S_, .f32⟩) (.of main_call2_v2 : StableHlo.TRef sig ⟨S1, .f32⟩) (broadcastInDim S1 ![] bcast_S_S1),
    StableHlo.TRef.binary (.of main_call2_v1 : StableHlo.TRef sig ⟨S1, .f32⟩) (.of main_call2_v2 : StableHlo.TRef sig ⟨S1, .f32⟩) (.of main_call2_v3 : StableHlo.TRef sig ⟨S1, .f32⟩) Host.divf,
    StableHlo.TRef.unary (.of main_call2_v3 : StableHlo.TRef sig ⟨S1, .f32⟩) (.of main_call2_v4 : StableHlo.TRef sig ⟨S8, .f32⟩) (broadcastInDim S8 ![0] bcast_S1_S8_0),
    StableHlo.TRef.binary (.of main_v57 : StableHlo.TRef sig ⟨S8, .f32⟩) (.of main_call2_v4 : StableHlo.TRef sig ⟨S8, .f32⟩) (.of main_call2_v5 : StableHlo.TRef sig ⟨S8, .f32⟩) subf,
    StableHlo.TRef.binary (.of main_call2_v5 : StableHlo.TRef sig ⟨S8, .f32⟩) (.of main_call2_v5 : StableHlo.TRef sig ⟨S8, .f32⟩) (.of main_call2_v6 : StableHlo.TRef sig ⟨S8, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x41000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8, .f32⟩) (.of main_call2_cst_2 : StableHlo.TRef sig ⟨S_, .f32⟩) (.of main_call2_v9 : StableHlo.TRef sig ⟨S_, .f32⟩) (fun x v => Host.reduceAdd x v reducesTo_S8_S_d0 h_S_),
    StableHlo.TRef.binary (.of main_call2_v9 : StableHlo.TRef sig ⟨S_, .f32⟩) (.of main_call2_v8 : StableHlo.TRef sig ⟨S_, .f32⟩) (.of main_call2_v10 : StableHlo.TRef sig ⟨S_, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v11 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.ternary (.of main_call2_v11 : StableHlo.TRef sig ⟨S_, .i1⟩) (.of main_call2_v10 : StableHlo.TRef sig ⟨S_, .f32⟩) (.of main_call2_call0_v0 : StableHlo.TRef sig ⟨S_, .f32⟩) (.of main_v58 : StableHlo.TRef sig ⟨S_, .f32⟩) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub ..⟩
/-- 13 host operations of @main, window 1 (statements 61 … 100), in order. -/
abbrev main_part1_ops4 : List (HloOp τ sig (Elt F)) :=
  [ StableHlo.nullary main_cst_16 (constant S_ .f32 0x00000000#32),
    StableHlo.binary main_v57 main_cst_16 main_v59 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_17 (constant S_ .f32 0x41000000#32),
    StableHlo.binary main_v59 main_cst_17 main_v60 (Host.divf : (⟨S_, .f32⟩ : BufTy).Contents (Elt F) → (⟨S_, .f32⟩ : BufTy).Contents (Elt F) → (⟨S_, .f32⟩ : BufTy).Contents (Elt F)),
    StableHlo.binary main_v60 main_v60 main_v61 (mulf : (⟨S_, .f32⟩ : BufTy).Contents (Elt F) → (⟨S_, .f32⟩ : BufTy).Contents (Elt F) → (⟨S_, .f32⟩ : BufTy).Contents (Elt F)),
    StableHlo.nullary main_cst_18 (constant S_ .f32 0x2EDBE6FF#32),
    StableHlo.binary main_v61 main_cst_18 main_v62 (addf : (⟨S_, .f32⟩ : BufTy).Contents (Elt F) → (⟨S_, .f32⟩ : BufTy).Contents (Elt F) → (⟨S_, .f32⟩ : BufTy).Contents (Elt F)),
    StableHlo.binary main_v58 main_v62 main_v63 (Host.divf : (⟨S_, .f32⟩ : BufTy).Contents (Elt F) → (⟨S_, .f32⟩ : BufTy).Contents (Elt F) → (⟨S_, .f32⟩ : BufTy).Contents (Elt F)),
    StableHlo.binary main_v56 main_v63 main_v64 (addf : (⟨S_, .f32⟩ : BufTy).Contents (Elt F) → (⟨S_, .f32⟩ : BufTy).Contents (Elt F) → (⟨S_, .f32⟩ : BufTy).Contents (Elt F)),
    StableHlo.nullary main_cst_19 (constant S_ .f32 0x3C23D70A#32),
    StableHlo.binary main_v64 main_cst_19 main_v65 (mulf : (⟨S_, .f32⟩ : BufTy).Contents (Elt F) → (⟨S_, .f32⟩ : BufTy).Contents (Elt F) → (⟨S_, .f32⟩ : BufTy).Contents (Elt F)),
    StableHlo.binary main_v45 main_v11 main_v66 ((fun l r => Host.dotGeneral dot_S1024x8_S8x1024x1_S1024x1_1_0_n_2_0_1 none l r) : (⟨S1024x8, .f32⟩ : BufTy).Contents (Elt F) → (⟨S8x1024x1, .f32⟩ : BufTy).Contents (Elt F) → (⟨S1024x1, .f32⟩ : BufTy).Contents (Elt F)),
    StableHlo.reshape main_v65 main_v67 (rfl : (.f32 : EltTy) = .f32) shapeCasts_S_S1x1 ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.reshape_bufs_sub ..⟩
/-- The last window of `main` (`main_part1`, statements 61 … 100) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1, main_part1_ops0],
    .ops [main_part1_ops1],
    .ops [main_part1_ops2],
    .ops [main_part1_ops3],
    .ops [main_part1_ops4] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S20x1024x64, .f32⟩) ![(.of main_v2_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x1024x64, .f32⟩) (fun x i => Host.dynamicSlice S1x1024x64 x (fun k => (i k (Shape.Idx.first h_S_)).toInt) sliceFits_S20x1024x64_S1x1024x64),
    StableHlo.TRef.reshape (.of main_while0b_call0_v0 : StableHlo.TRef sig ⟨S1x1024x64, .f32⟩) (.of main_while0b_v68 : StableHlo.TRef sig ⟨S1024x64, .f32⟩) (rfl : (.f32 : EltTy) = .f32) shapeCasts_S1x1024x64_S1024x64 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 15 host operations of host loop 0's body region, in order. -/
abbrev while0Ops0_1 : List (HloOp τ sig (Elt F)) :=
  [ StableHlo.binary main_v2_1 main_while0b_v68 main_while0b_v69 ((fun l r => Host.dotGeneral dot_S8x64x64_S1024x64_S8x64x1024_2_1_01_0_n_n none l r) : (⟨S8x64x64, .f32⟩ : BufTy).Contents (Elt F) → (⟨S1024x64, .f32⟩ : BufTy).Contents (Elt F) → (⟨S8x64x1024, .f32⟩ : BufTy).Contents (Elt F)),
    StableHlo.unary main_while0b_v69 main_while0b_v70 ((transpose S8x1024x64 [0, 2, 1] · transposes_S8x64x1024_S8x1024x64_0_2_1) : (⟨S8x64x1024, .f32⟩ : BufTy).Contents (Elt F) → (⟨S8x1024x64, .f32⟩ : BufTy).Contents (Elt F)),
    StableHlo.binary main_v2_6 main_v2_2 main_while0b_v71 ((fun l r => Host.dotGeneral dot_S8x1024x64_S8x64x64_S8x1024x64_2_2_1_1_0_0 none l r) : (⟨S8x1024x64, .f32⟩ : BufTy).Contents (Elt F) → (⟨S8x64x64, .f32⟩ : BufTy).Contents (Elt F) → (⟨S8x1024x64, .f32⟩ : BufTy).Contents (Elt F)),
    StableHlo.binary main_while0b_v70 main_while0b_v71 main_while0b_v72 (addf : (⟨S8x1024x64, .f32⟩ : BufTy).Contents (Elt F) → (⟨S8x1024x64, .f32⟩ : BufTy).Contents (Elt F) → (⟨S8x1024x64, .f32⟩ : BufTy).Contents (Elt F)),
    StableHlo.unary main_v2_3 main_while0b_v73 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v73 main_while0b_v74 (broadcastInDim S8x1024x64 ![0, 1, 2] bcast_S8x1x64_S8x1024x64_0_1_2 : (⟨S8x1x64, .f32⟩ : BufTy).Contents (Elt F) → (⟨S8x1024x64, .f32⟩ : BufTy).Contents (Elt F)),
    StableHlo.binary main_while0b_v72 main_while0b_v74 main_while0b_v75 (addf : (⟨S8x1024x64, .f32⟩ : BufTy).Contents (Elt F) → (⟨S8x1024x64, .f32⟩ : BufTy).Contents (Elt F) → (⟨S8x1024x64, .f32⟩ : BufTy).Contents (Elt F)),
    StableHlo.unary main_v2_4 main_while0b_v76 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v76 main_while0b_v77 (broadcastInDim S8x1024x64 ![0, 1, 2] bcast_S8x1x64_S8x1024x64_0_1_2 : (⟨S8x1x64, .f32⟩ : BufTy).Contents (Elt F) → (⟨S8x1024x64, .f32⟩ : BufTy).Contents (Elt F)),
    StableHlo.binary main_while0b_v75 main_while0b_v77 main_while0b_v78 (addf : (⟨S8x1024x64, .f32⟩ : BufTy).Contents (Elt F) → (⟨S8x1024x64, .f32⟩ : BufTy).Contents (Elt F) → (⟨S8x1024x64, .f32⟩ : BufTy).Contents (Elt F)),
    StableHlo.unary main_while0b_v78 main_while0b_v79 (Host.tanh : (⟨S8x1024x64, .f32⟩ : BufTy).Contents (Elt F) → (⟨S8x1024x64, .f32⟩ : BufTy).Contents (Elt F)),
    StableHlo.nullary main_while0b_c_26 (constantI S_ 32 1#32),
    StableHlo.binary main_v2_5 main_while0b_c_26 main_while0b_v80 (addi : (⟨S_, .i32⟩ : BufTy).Contents (Elt F) → (⟨S_, .i32⟩ : BufTy).Contents (Elt F) → (⟨S_, .i32⟩ : BufTy).Contents (Elt F)),
    StableHlo.unary main_while0b_v80 main_v2_5 id,
    StableHlo.unary main_while0b_v79 main_v2_6 id ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_cst, main_v1, main_c, main_v2_0, main_v2_1, main_v2_2, main_v2_3, main_v2_4, main_v2_5, main_v2_6]
/-- Each operation of `hostOps0` writes into `hostOps0_W`. -/
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v68]
/-- Each operation of `while0Ops0` writes into `while0Ops0_W`. -/
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v69, main_while0b_v70, main_while0b_v71, main_while0b_v72, main_while0b_v73, main_while0b_v74, main_while0b_v75, main_while0b_v76, main_while0b_v77, main_while0b_v78, main_while0b_v79, main_while0b_c_26, main_while0b_v80, main_v2_5, main_v2_6]
/-- Each operation of `while0Ops0_1` writes into `while0Ops0_1_W`. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_1` writes, in order. -/
abbrev hostOps0_1_W : List (Ref sig .tc) := [main_v3, main_v4, main_v5, main_v6, main_v7, main_v8, main_v9, main_v10, main_v11, main_v12, main_v13, main_v14, main_values, main_indices, main_v15, main_v16, main_cst_0, main_v17, main_cst_1, main_v18, main_v19, main_v20, main_v21, main_v22, main_v23, main_cst_2, main_v24, main_v25, main_v26, main_v27, main_cst_3, main_v28, main_v29, main_v30, main_c_4, main_v31, main_v32, main_c_5, main_v33, main_v34, main_v35, main_c_6, main_v36, main_v37, main_c_7, main_v38, main_v39, main_v40, main_v41, main_v42, main_v43, main_v44, main_v45, main_cst_8, main_v46, main_cst_9, main_v47, main_v48, main_v49, main_c_10, main_v50, main_c_11]
/-- Each operation of `hostOps0_1` writes into `hostOps0_1_W`. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_cst_3, main_call1_v11, main_call1_cst_4, main_call1_call0_v0, main_v51]
/-- Each operation of `hostOps0_2` writes into `hostOps0_2_W`. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_cst_12, main_v52, main_cst_13, main_v53, main_v54, main_cst_14, main_v55, main_v56, main_v57, main_c_15]
/-- Each operation of `hostOps0_3` writes into `hostOps0_3_W`. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_cst_3, main_call2_v11, main_call2_cst_4, main_call2_call0_v0, main_v58]
/-- Each operation of `hostOps0_4` writes into `hostOps0_4_W`. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_cst_16, main_v59, main_cst_17, main_v60, main_v61, main_cst_18, main_v62, main_v63, main_v64, main_cst_19, main_v65, main_v66, main_v67]
/-- Each operation of `hostOps0_5` writes into `hostOps0_5_W`. -/
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_26 (constantI S_ 32 20#32),
    StableHlo.binary main_v2_5 main_while0c_c_26 main_while0c_v68 (cmpi .slt) ]

/-- The operations before the loop. -/
abbrev preI : List (List (HloOp τ sig (Elt F))) := [hostOps0]
/-- The loop body's operations, window by window. -/
abbrev bodyI : List (List (HloOp τ sig (Elt F))) := [while0Ops0, while0Ops0_1]
/-- The operations after the loop, window by window. -/
abbrev postI : List (List (HloOp τ sig (Elt F))) := [hostOps0_1, hostOps0_2, hostOps0_3, hostOps0_4, hostOps0_5]

/-- The operations before the loop use TensorCore buffers only and allocate none. -/
theorem hpre : Plain (preI (F := F)) := .cons hostOps0_sub (hf := List.forall_iff_forall_mem.mp hostOps0_fresh) (.nil)
/-- The loop body's operations use TensorCore buffers only and allocate none. -/
theorem hbodyI : Plain (bodyI (F := F)) := .cons while0Ops0_sub (hf := List.forall_iff_forall_mem.mp while0Ops0_fresh) (.cons while0Ops0_1_sub (hf := List.forall_iff_forall_mem.mp while0Ops0_1_fresh) (.nil))
/-- The operations after the loop use TensorCore buffers only and allocate none. -/
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_26, main_while0c_v68]
/-- Each operation of `condOps` writes into `condOps_W`. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_5`) is written by one stretch of the body, `while0Ops0_1`: not by the condition, nor by the
    body's other stretches. -/
theorem ctr_cond (V : Valuation τ sig (Elt F)) : after condOps V (Proc.devRef .tc main_v2_5) = V (Proc.devRef .tc main_v2_5) :=
  after_of_writes_sub condOps V condOps_writes (by decide +kernel)
/-- The first window of the loop body leaves the loop counter alone. -/
theorem ctr_while0Ops0 (V : Valuation τ sig (Elt F)) : after while0Ops0 V (Proc.devRef .tc main_v2_5) = V (Proc.devRef .tc main_v2_5) :=
  after_of_writes_sub while0Ops0 V while0Ops0_writes (by decide +kernel)

/-- The body's operations 1 … 3 of 19. -/
abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S20x1024x64, .f32⟩) ![(.of main_v2_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x1024x64, .f32⟩) (fun x i => Host.dynamicSlice S1x1024x64 x (fun k => (i k (Shape.Idx.first h_S_)).toInt) sliceFits_S20x1024x64_S1x1024x64) ]

/-- The body's operations 4 … 4 of 19. -/
abbrev trip_w1 : List (HloOp τ sig (Elt F)) :=
  [ StableHlo.TRef.reshape (.of main_while0b_call0_v0 : StableHlo.TRef sig ⟨S1x1024x64, .f32⟩) (.of main_while0b_v68 : StableHlo.TRef sig ⟨S1024x64, .f32⟩) (rfl : (.f32 : EltTy) = .f32) shapeCasts_S1x1024x64_S1024x64 ]

/-- The body's operations 5 … 15 of 19. -/
abbrev trip_w2 : List (HloOp τ sig (Elt F)) :=
  [ StableHlo.binary main_v2_1 main_while0b_v68 main_while0b_v69 ((fun l r => Host.dotGeneral dot_S8x64x64_S1024x64_S8x64x1024_2_1_01_0_n_n none l r) : (⟨S8x64x64, .f32⟩ : BufTy).Contents (Elt F) → (⟨S1024x64, .f32⟩ : BufTy).Contents (Elt F) → (⟨S8x64x1024, .f32⟩ : BufTy).Contents (Elt F)),
    StableHlo.unary main_while0b_v69 main_while0b_v70 ((transpose S8x1024x64 [0, 2, 1] · transposes_S8x64x1024_S8x1024x64_0_2_1) : (⟨S8x64x1024, .f32⟩ : BufTy).Contents (Elt F) → (⟨S8x1024x64, .f32⟩ : BufTy).Contents (Elt F)),
    StableHlo.binary main_v2_6 main_v2_2 main_while0b_v71 ((fun l r => Host.dotGeneral dot_S8x1024x64_S8x64x64_S8x1024x64_2_2_1_1_0_0 none l r) : (⟨S8x1024x64, .f32⟩ : BufTy).Contents (Elt F) → (⟨S8x64x64, .f32⟩ : BufTy).Contents (Elt F) → (⟨S8x1024x64, .f32⟩ : BufTy).Contents (Elt F)),
    StableHlo.binary main_while0b_v70 main_while0b_v71 main_while0b_v72 (addf : (⟨S8x1024x64, .f32⟩ : BufTy).Contents (Elt F) → (⟨S8x1024x64, .f32⟩ : BufTy).Contents (Elt F) → (⟨S8x1024x64, .f32⟩ : BufTy).Contents (Elt F)),
    StableHlo.unary main_v2_3 main_while0b_v73 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v73 main_while0b_v74 (broadcastInDim S8x1024x64 ![0, 1, 2] bcast_S8x1x64_S8x1024x64_0_1_2 : (⟨S8x1x64, .f32⟩ : BufTy).Contents (Elt F) → (⟨S8x1024x64, .f32⟩ : BufTy).Contents (Elt F)),
    StableHlo.binary main_while0b_v72 main_while0b_v74 main_while0b_v75 (addf : (⟨S8x1024x64, .f32⟩ : BufTy).Contents (Elt F) → (⟨S8x1024x64, .f32⟩ : BufTy).Contents (Elt F) → (⟨S8x1024x64, .f32⟩ : BufTy).Contents (Elt F)),
    StableHlo.unary main_v2_4 main_while0b_v76 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v76 main_while0b_v77 (broadcastInDim S8x1024x64 ![0, 1, 2] bcast_S8x1x64_S8x1024x64_0_1_2 : (⟨S8x1x64, .f32⟩ : BufTy).Contents (Elt F) → (⟨S8x1024x64, .f32⟩ : BufTy).Contents (Elt F)),
    StableHlo.binary main_while0b_v75 main_while0b_v77 main_while0b_v78 (addf : (⟨S8x1024x64, .f32⟩ : BufTy).Contents (Elt F) → (⟨S8x1024x64, .f32⟩ : BufTy).Contents (Elt F) → (⟨S8x1024x64, .f32⟩ : BufTy).Contents (Elt F)),
    StableHlo.unary main_while0b_v78 main_while0b_v79 (Host.tanh : (⟨S8x1024x64, .f32⟩ : BufTy).Contents (Elt F) → (⟨S8x1024x64, .f32⟩ : BufTy).Contents (Elt F)) ]

/-- The body's operations 16 … 19 of 19: the counter's step and the copies back into the carried buffers. -/
abbrev while0Ops0_1_step : List (HloOp τ sig (Elt F)) :=
  [ StableHlo.nullary main_while0b_c_26 (constantI S_ 32 1#32),
    StableHlo.binary main_v2_5 main_while0b_c_26 main_while0b_v80 (addi : (⟨S_, .i32⟩ : BufTy).Contents (Elt F) → (⟨S_, .i32⟩ : BufTy).Contents (Elt F) → (⟨S_, .i32⟩ : BufTy).Contents (Elt F)),
    StableHlo.unary main_while0b_v80 main_v2_5 id,
    StableHlo.unary main_while0b_v79 main_v2_6 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order, then the step. -/
theorem while0Ops0_1_cut : (while0Ops0_1 : List (HloOp τ sig (Elt F))) = trip_w2 ++ (while0Ops0_1_step) := rfl

/-- The buffers that window `trip_w0`'s operations write. -/
abbrev trip_w0_W : List (Ref sig .tc) := [main_while0b_call0_c, main_while0b_call0_c_0, main_while0b_call0_v0]
set_option maxRecDepth 8192 in
/-- Each operation of `trip_w0` writes into `trip_w0_W`. -/
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v68]
set_option maxRecDepth 8192 in
/-- Each operation of `trip_w1` writes into `trip_w1_W`. -/
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_v69, main_while0b_v70, main_while0b_v71, main_while0b_v72, main_while0b_v73, main_while0b_v74, main_while0b_v75, main_while0b_v76, main_while0b_v77, main_while0b_v78, main_while0b_v79]
set_option maxRecDepth 8192 in
/-- Each operation of `trip_w2` writes into `trip_w2_W`. -/
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The last window of one trip leaves the loop counter alone. -/
theorem ctr_trip_w2 (V : Valuation τ sig (Elt F)) : after trip_w2 V (Proc.devRef .tc main_v2_5) = V (Proc.devRef .tc main_v2_5) :=
  after_of_writes_sub trip_w2 V trip_w2_writes (by decide +kernel)

set_option maxRecDepth 100000 in
/-- `while0Ops0_1_step` leaves the counter one step on. -/
theorem ctr_while0Ops0_1_step (Y : Valuation τ sig (Elt F)) :
    after while0Ops0_1_step Y (Proc.devRef .tc main_v2_5) = addi (Y (Proc.devRef .tc main_v2_5)) (constantI S_ 32 1#32) := by
  after_results
  rfl

set_option maxRecDepth 100000 in
/-- `while0Ops0_1` leaves the counter one step on: its windows do not write the counter, and `while0Ops0_1_step` steps it. -/
theorem ctr_step (X : Valuation τ sig (Elt F)) :
    after while0Ops0_1 X (Proc.devRef .tc main_v2_5) = addi (X (Proc.devRef .tc main_v2_5)) (constantI S_ 32 1#32) := by
  simp only [while0Ops0_1_cut, after_append]
  rw [ctr_while0Ops0_1_step, ctr_trip_w2]

/-- The counter is the loop's lower bound at the loop's entry: its last writer before the loop read back. -/
theorem ctr_entry (c : Dev nD) : entryContents preI m c (Proc.devRef .tc main_v2_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0, ctr_cond, atK_ctr c k, Scf.iv_succ]
    rfl

-- the rule is stated for any thread and applied at the TensorCore thread
set_option backward.isDefEq.respectTransparency.types false in
/-- The condition's specification at the fold. -/
theorem cond_spec : CondSpec (pcfgs (F := F)) defs₀ loops (main_while0_cond (F := F)) condOps bodyI (entryContents preI m) 20 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_5 HostLoop.idx0)
        (HloOp.result _ (atK m k c) main_while0c_c_26 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 20 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 20 m ρ (cond_spec m)

end Cert.ReferenceIdeal.Value

end
-- ==== Proof.RefTrip.lean ====
/- One trip of the reference's loop, and what the run leaves.
   The trip reads time step `t` of the transposed input and replaces the hidden state; every other carried array and
   every argument keeps its contents, so the run ends with the arguments as launched. -/
module

public import proofs.«01_k».proof.Proof.RefRun

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The arguments of @main: no operation of the program writes one. -/
abbrev argRefs : List (Ref sig .tc) :=
  [main_arg0, main_arg1, main_arg2, main_arg3, main_arg4, main_arg5, main_arg6, main_arg7, main_arg8, main_arg9]

/-- Of two disjoint lists of buffers, a member of the one is not in the other. -/
theorem not_mem_of_disjoint {L W : List (Ref sig .tc)} (h : L.all (fun r => !W.contains r) = true) {r : Ref sig .tc}
    (hr : r ∈ L) : r ∉ W := by
  have h1 := List.all_eq_true.mp h r hr
  simpa using h1

/-- One run of the condition and the body leaves an argument as it was. -/
theorem trip_keeps {r : Ref sig .tc} (hr : r ∈ argRefs) (V : Valuation τ sig (Elt F)) :
    afterL bodyI (after condOps V) (Proc.devRef .tc r) = V (Proc.devRef .tc r) := by
  simp only [bodyI, afterL_cons, afterL_nil]
  rw [after_of_writes_sub _ _ while0Ops0_1_writes (not_mem_of_disjoint (by decide) hr),
    after_of_writes_sub _ _ while0Ops0_writes (not_mem_of_disjoint (by decide) hr),
    after_of_writes_sub _ _ condOps_writes (not_mem_of_disjoint (by decide) hr)]

/-- Before every trip an argument is as launched. -/
theorem atK_keeps {r : Ref sig .tc} (hr : r ∈ argRefs) (c : Dev nD) :
    ∀ k, atK m k c (Proc.devRef .tc r) = m ((c.tc : Thread nD τ).loc r)
  | 0 => by
    rw [show atK m 0 c = entryContents preI m c from rfl]
    simp only [entryContents, preI, afterL_cons, afterL_nil]
    rw [after_of_writes_sub _ _ hostOps0_writes (not_mem_of_disjoint (by decide) hr)]
  | k + 1 => by
    rw [show atK m (k + 1) c = afterL bodyI (after condOps (atK m k c)) from rfl, trip_keeps hr, atK_keeps hr c k]

/-- The contents the stretches after the loop start from. -/
abbrev exitContents (c : Dev nD) : Valuation τ sig (Elt F) := after condOps (atK m 20 c)

/-- After the loop an argument is as launched. -/
theorem exit_keeps {r : Ref sig .tc} (hr : r ∈ argRefs) (c : Dev nD) :
    exitContents m c (Proc.devRef .tc r) = m ((c.tc : Thread nD τ).loc r) := by
  rw [exitContents, after_of_writes_sub _ _ condOps_writes (not_mem_of_disjoint (by decide) hr), atK_keeps m hr c 20]

/-- At the end an argument is as launched. -/
theorem final_keeps {r : Ref sig .tc} (hr : r ∈ argRefs) (c : Dev nD) :
    finalContents condOps preI bodyI postI 20 m c (Proc.devRef .tc r) = m ((c.tc : Thread nD τ).loc r) := by
  show afterL postI (exitContents m c) (Proc.devRef .tc r) = _
  simp only [postI, afterL_cons, afterL_nil]
  rw [after_of_writes_sub _ _ hostOps0_5_writes (not_mem_of_disjoint (by decide) hr),
    after_of_writes_sub _ _ hostOps0_4_writes (not_mem_of_disjoint (by decide) hr),
    after_of_writes_sub _ _ hostOps0_3_writes (not_mem_of_disjoint (by decide) hr),
    after_of_writes_sub _ _ hostOps0_2_writes (not_mem_of_disjoint (by decide) hr),
    after_of_writes_sub _ _ hostOps0_1_writes (not_mem_of_disjoint (by decide) hr), exit_keeps m hr c]

/-- THE RUN: every weakly fair execution terminates with each result at what the stretches after the loop make of the
    loop's exit contents, the arguments unchanged and every counter at zero (the program declares none). -/
theorem run : θ_run (defs (F := F)) (onTc (τ := τ) (main (F := F))) ⟨m, fun _ => 0, ρ⟩ fun r =>
    (∀ c : Dev nD,
      r.2.mem ((c.tc : Thread nD τ).loc main_v66) = afterL postI (exitContents m c) (Proc.devRef .tc main_v66)
      ∧ r.2.mem ((c.tc : Thread nD τ).loc main_v67) = afterL postI (exitContents m c) (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0 := by
  refine (θ_run defs _ _).mono (fun r h => ⟨fun c => ?_, ?_⟩) (run_fold m ρ)
  · have harg : ∀ b ∈ argRefs, (Proc.devRef .tc b : DevRef τ sig).isScoped = false →
        r.2.mem ((c.tc : Thread nD τ).loc b) = m ((c.tc : Thread nD τ).loc b) :=
      fun b hb hs => (h c b hs).trans (final_keeps m hb c)
    exact ⟨h c main_v66 rfl, h c main_v67 rfl, harg _ (by decide) rfl, harg _ (by decide) rfl, harg _ (by decide) rfl,
      harg _ (by decide) rfl, harg _ (by decide) rfl, harg _ (by decide) rfl, harg _ (by decide) rfl,
      harg _ (by decide) rfl, harg _ (by decide) rfl, harg _ (by decide) rfl⟩
  · funext s
    rcases s with ⟨d, s | s⟩
    · exact s.elim0
    · exact s.elim0

end Cert.ReferenceIdeal.Value

end
-- ==== Proof.PreFacts.lean ====
/- The side conditions the precondition's operations take: those of them the reference states too are its facts, the
   two reductions' shape relations are decided. -/
module

public import proofs.«01_k».proof.Defs
public import proofs.«01_k».proof.Proof.Gen.ReferenceIdeal

@[expose] public section

namespace Cert.PreFacts

open Idealize.ShloMosaic Cert.ReferenceIdeal.Gen

/-- The precondition's facts, proved. -/
instance facts : Cert.Pre_top_logit_finite.Facts where
  slices_S1024x20x64_S1024x1x64_0_19_0 := @slices_S1024x20x64_S1024x1x64_0_19_0
  shapeCasts_S1024x1x64_S1024x64 := @shapeCasts_S1024x1x64_S1024x64
  reducesTo_S1024x8_S1024_d1 := by decide
  h_S_ := @h_S_
  bcast_S_S1024 := @bcast_S_S1024
  reducesTo_S1024_S_d0 := by decide
  dot_S1024x64_S64x8_S1024x8_1_0_0_1_n_n_wf := @dot_S1024x64_S64x8_S1024x8_1_0_0_1_n_n_wf

end Cert.PreFacts

end
-- ==== Proof.KReads.lean ====
/- Reading back what a body stored block by block: a load of part of an input, the last block written over an index,
   and the two-block rows `[hidden state | time step]` the recurrence multiplies. -/
module

public import proofs.«01_k».proof.Proof.Gen.KernelIdeal.Value
public import Idealize.ShloMosaic.Lib.Pointwise
public import Idealize.ShloMosaic.Lib.WholeRead

@[expose] public section

noncomputable section

namespace Cert.KernelIdeal.Cells

open Cert.KernelIdeal Cert.KernelIdeal.Gen
open Idealize.ShloMosaic Idealize.ShloMosaic.TcCoe

variable {F : FTy → Type} [FloatOps F]

/-- The block of `x` with its corner at row `r`, column `c`. -/
def block {α : Type} {M N : ℕ} [NeZero M] [NeZero N] (r c m n : ℕ) (x : (⟨2, ![M, N]⟩ : Shape).Idx → α) :
    (⟨2, ![m, n]⟩ : Shape).Idx → α :=
  fun j => x (ix2 (Fin.ofNat M (r + (j 0).val)) (Fin.ofNat N (c + (j 1).val)))

/-- A load of a block of a whole array is that block. -/
theorem load_block {M N m n r c : ℕ} [NeZero M] [NeZero N] {sig : RefSig} {κ : Kind} {sp : Space} {e : EltTy} {Val : EltTy → Type}
    {a : Memref sig κ sp (⟨2, ![M, N]⟩ : Shape) e} (h : a.IsWhole) (x : (⟨2, ![M, N]⟩ : Shape).Idx → Val e)
    (inb : ∀ d, (![r, c] : Fin 2 → ℕ) d + (![m, n] : Fin 2 → ℕ) d ≤ (![M, N] : Fin 2 → ℕ) d) :
    View.readAt Val a.view (Rect.unit (s := ⟨2, ![M, N]⟩) ![r, c] ![m, n] inb).toLoadRect (h.unread x) = block r c m n x := by
  funext j
  rw [h.readAt_unread]
  refine congrArg x ?_
  have h0 : r + m ≤ M := inb 0
  have h1 : c + n ≤ N := inb 1
  have j0 : (j 0).val < m := (j 0).isLt
  have j1 : (j 1).val < n := (j 1).isLt
  funext d
  refine Fin.ext ?_
  revert d
  refine Fin.forall_fin_two.mpr ⟨?_, ?_⟩
  · show r + 1 * (j 0).val = (r + (j 0).val) % M
    rw [Nat.mod_eq_of_lt (by omega)]; omega
  · show c + 1 * (j 1).val = (c + (j 1).val) % N
    rw [Nat.mod_eq_of_lt (by omega)]; omega

/-- The contents after the newest block: inside the block its payload, elsewhere what was there before. -/
theorem canon_block {M N m n r c : ℕ} [NeZero m] [NeZero n] {e : EltTy} {Val : EltTy → Type} [∀ e, Nonempty (Val e)]
    (inb : ∀ d, (![r, c] : Fin 2 → ℕ) d + (![m, n] : Fin 2 → ℕ) d ≤ (![M, N] : Fin 2 → ℕ) d)
    (w : (⟨2, ![m, n]⟩ : Shape).Idx → Val e) (L : List (View.Piece Val (⟨2, ![M, N]⟩ : Shape) e)) (i : Fin M) (k : Fin N) :
    View.canon ((⟨Rect.unit (s := ⟨2, ![M, N]⟩) ![r, c] ![m, n] inb, w⟩ : View.Piece Val (⟨2, ![M, N]⟩ : Shape) e) :: L) (ix2 i k)
      = if (r ≤ i.val ∧ i.val < r + m) ∧ (c ≤ k.val ∧ k.val < c + n) then
          w (ix2 (Fin.ofNat m (i.val - r)) (Fin.ofNat n (k.val - c)))
        else View.canon L (ix2 i k) := by
  split
  · rename_i h
    rw [← View.canon_cons_emb (Rect.unit (s := ⟨2, ![M, N]⟩) ![r, c] ![m, n] inb) w L
      (ix2 (Fin.ofNat m (i.val - r)) (Fin.ofNat n (k.val - c)))]
    refine congrArg _ ?_
    funext d
    refine Fin.ext ?_
    revert d
    refine Fin.forall_fin_two.mpr ⟨?_, ?_⟩
    · show i.val = r + 1 * ((i.val - r) % m)
      rw [Nat.mod_eq_of_lt (by omega)]; omega
    · show k.val = c + 1 * ((k.val - c) % n)
      rw [Nat.mod_eq_of_lt (by omega)]; omega
  · rename_i h
    refine View.canon_cons_of_not_mem _ L ?_
    show ix2 i k ∉ (Rect.unit (s := ⟨2, ![M, N]⟩) ![r, c] ![m, n] inb).set
    rw [Rect.mem_set_unit]
    intro hall
    have a0 : r ≤ i.val ∧ i.val < r + m := hall 0
    have a1 : c ≤ k.val ∧ k.val < c + n := hall 1
    exact h ⟨a0, a1⟩

/-- A load of the whole of a buffer after the stores `L` reads the contents the stores left. -/
theorem load_whole {M N : ℕ} {sig : RefSig} {κ : Kind} {sp : Space} {e : EltTy} {Val : EltTy → Type} [∀ e, Nonempty (Val e)]
    (v : View sig κ sp (⟨2, ![M, N]⟩ : Shape) e) (L : List (View.Piece Val (⟨2, ![M, N]⟩ : Shape) e))
    (inb : ∀ d, (![0, 0] : Fin 2 → ℕ) d + (![M, N] : Fin 2 → ℕ) d ≤ (![M, N] : Fin 2 → ℕ) d) :
    v.readCov L (Rect.unit (s := ⟨2, ![M, N]⟩) ![0, 0] ![M, N] inb).toLoadRect = View.canon L := by
  rw [View.readCov_eq_canon']
  funext j
  refine congrArg (View.canon L) ?_
  funext d
  refine Fin.ext ?_
  revert d
  refine Fin.forall_fin_two.mpr ⟨?_, ?_⟩
  · show 0 + 1 * (j 0).val = (j 0).val
    omega
  · show 0 + 1 * (j 1).val = (j 1).val
    omega

/-- Two blocks side by side: the 256 columns of `q`, then the 64 columns of `p`. -/
def joined {α : Type} (q : S1024x256.Idx → α) (p : S1024x64.Idx → α) : S1024x320.Idx → α := fun i =>
  if (i 1).val < 256 then q (ix2 (i 0) (Fin.ofNat 256 (i 1).val)) else p (ix2 (i 0) (Fin.ofNat 64 ((i 1).val - 256)))

/-- A row buffer read back after its two blocks were stored, whatever was stored before. -/
theorem load_joined {sig : RefSig} {κ : Kind} {sp : Space} {e : EltTy} {Val : EltTy → Type} [∀ e, Nonempty (Val e)]
    (v : View sig κ sp S1024x320 e) (q : S1024x256.Idx → Val e) (p : S1024x64.Idx → Val e)
    (L : List (View.Piece Val S1024x320 e)) (i1 i2 i3) :
    v.readCov (⟨Rect.unit (s := S1024x320) ![0, 256] ![1024, 64] i1, p⟩ ::
        ⟨Rect.unit (s := S1024x320) ![0, 0] ![1024, 256] i2, q⟩ :: L)
      (Rect.unit (s := S1024x320) ![0, 0] ![1024, 320] i3).toLoadRect = joined q p := by
  refine (load_whole v _ i3).trans ?_
  funext j
  obtain ⟨r, c, rfl⟩ : ∃ (r : Fin 1024) (c : Fin 320), j = ix2 r c := ⟨j 0, j 1, (ix2_eta j).symm⟩
  refine (canon_block i1 p _ r c).trans ?_
  have hr : r.val < 1024 := r.isLt
  have hc : c.val < 320 := c.isLt
  have e0 : (Fin.ofNat 1024 (r.val - 0)) = r := Fin.ext (by show (r.val - 0) % 1024 = r.val; omega)
  by_cases h : c.val < 256
  · rw [if_neg (by omega)]
    refine (canon_block i2 q _ r c).trans ?_
    rw [if_pos (by omega), e0]
    show _ = if c.val < 256 then _ else _
    rw [if_pos h]; rfl
  · rw [if_pos (by omega), e0]
    show _ = if c.val < 256 then _ else _
    rw [if_neg h]; rfl

end Cert.KernelIdeal.Cells

end
-- ==== Proof.KChain.lean ====
/- The recurrence in the run: what the two row buffers hold when the last product reads them is the hidden state after
   nineteen steps beside the last time step. -/
module

public import proofs.«01_k».proof.Proof.KReads

@[expose] public section

set_option maxRecDepth 16384

noncomputable section

namespace Cert.KernelIdeal.Cells

open Cert.KernelIdeal Cert.KernelIdeal.Gen
open Idealize.ShloMosaic Idealize.ShloMosaic.TcCoe

variable {F : FTy → Type} [FloatOps F]

/-- One product of the row buffer with the weights, plus the bias. -/
def affine (b : FVec F S1x256 .f32) (w : Vec F S320x256 .f32) (xh : Vec F S1024x320 .f32) : FVec F S1024x256 .f32 :=
  addf (matmul dot_S1024x320_S320x256_S1024x256_1_0_0_1_n_n none xh w (constant S1024x256 .f32 0x00000000#32))
    (broadcastTo S1024x256 b broadcasts_S1x256_S1024x256)

/-- The row buffer before step `k`'s product: the hidden state so far beside the columns of time step `k`. -/
def rows (b : FVec F S1x256 .f32) (w : Vec F S320x256 .f32) (x : Vec F S1024x1280 .f32) : ℕ → Vec F S1024x320 .f32
  | 0 => joined (broadcast S1024x256 (Scalar.ofBits .f32 0x00000000#32 : F .f32)) (block 0 0 1024 64 x)
  | k + 1 => joined (tanh (affine b w (rows b w x k))) (block 0 (64 * (k + 1)) 1024 64 x)

/-- The first row buffer as the last product reads it. -/
theorem rows_a (c : Dev nD) (arg0 : Memref sig .tc .vmem S1024x1280 .f32) (harg0 : arg0.IsWhole)
    (arg2 : Memref sig .tc .vmem S512x64 .f32) (harg2 : arg2.IsWhole) (arg3 : Memref sig .tc .vmem S512x64 .f32) (harg3 : arg3.IsWhole)
    (arg4 : Memref sig .tc .vmem S1x512 .f32) (harg4 : arg4.IsWhole) (arg5 : Memref sig .tc .vmem S1x512 .f32) (harg5 : arg5.IsWhole)
    (arg12 : Memref sig .tc .vmem S1024x320 .f32) (arg14 : Memref sig .tc .vmem S320x256 .f32)
    (x0 : Vec F S1024x1280 .f32) (x2 x3 : Vec F S512x64 .f32) (x4 x5 : Vec F S1x512 .f32) :
    kernelRun0_A.sl.v637 c arg0 harg0 arg2 harg2 arg3 harg3 arg4 harg4 arg5 harg5 arg12 arg14 x0 x2 x3 x4 x5
      = rows (kernelRun0_A.sl.r_3 c arg4 harg4 arg5 harg5 x4 x5)
          (kernelRun0_A.sl.v163 c arg2 harg2 arg3 harg3 arg14 x2 x3) x0 19 := by
  simp only [load_joined, load_block, shapeCast_self, rows, affine,
    kernelRun0_A.sl.v637, kernelRun0_A.sl.HS0_40, kernelRun0_A.sl.r_19, kernelRun0_A.sl.v613, kernelRun0_A.sl.HS0_38,
    kernelRun0_A.sl.v589, kernelRun0_A.sl.HS0_36, kernelRun0_A.sl.v565, kernelRun0_A.sl.HS0_34, kernelRun0_A.sl.v541,
    kernelRun0_A.sl.HS0_32, kernelRun0_A.sl.r_16, kernelRun0_A.sl.v517, kernelRun0_A.sl.HS0_30, kernelRun0_A.sl.v493,
    kernelRun0_A.sl.HS0_28, kernelRun0_A.sl.r_15, kernelRun0_A.sl.HS0_27, kernelRun0_A.sl.v469,
    kernelRun0_A.sl.HS0_26, kernelRun0_A.sl.r_13, kernelRun0_A.sl.v445, kernelRun0_A.sl.HS0_24, kernelRun0_A.sl.v,
    kernelRun0_A.sl.HS0_22, kernelRun0_A.sl.v397, kernelRun0_A.sl.HS0_20, kernelRun0_A.sl.r_12, kernelRun0_A.sl.v373,
    kernelRun0_A.sl.HS0_18, kernelRun0_A.sl.r_11, kernelRun0_A.sl.v349, kernelRun0_A.sl.HS0_16, kernelRun0_A.sl.v325,
    kernelRun0_A.sl.HS0_14, kernelRun0_A.sl.v301, kernelRun0_A.sl.HS0_12, kernelRun0_A.sl.v277,
    kernelRun0_A.sl.HS0_10, kernelRun0_A.sl.r_7, kernelRun0_A.sl.v253, kernelRun0_A.sl.HS0_8, kernelRun0_A.sl.v229,
    kernelRun0_A.sl.HS0_6, kernelRun0_A.sl.v205, kernelRun0_A.sl.HS0_4, kernelRun0_A.sl.v181, kernelRun0_A.sl.HS0_2,
    k0_pay34, k0_pay36, k0_pay37, k0_pay40, k0_pay42, k0_pay43, k0_pay45, k0_pay47, k0_pay48, k0_pay50, k0_pay52,
    k0_pay53, k0_pay55, k0_pay56, k0_pay58, k0_pay59, k0_pay61, k0_pay63, k0_pay64, k0_pay66, k0_pay68, k0_pay69,
    k0_pay71, k0_pay73, k0_pay74, k0_pay77, k0_pay78, k0_pay80, k0_pay81, k0_pay83, k0_pay85, k0_pay86, k0_pay88,
    k0_pay90, k0_pay91, k0_pay93, k0_pay95, k0_pay96, k0_pay98, k0_pay100, k0_pay102, k0_pay103, k0_pay105,
    k0_pay107, k0_pay108, k0_pay110, k0_pay112, k0_pay113, k0_pay115, k0_pay116, k0_pay118, k0_pay119, k0_pay122,
    k0_pay124, k0_pay125, k0_pay127, k0_pay129, k0_pay130, k0_pay132, k0_pay134, k0_pay135, k0_pay137, k0_pay138,
    k0_pay140, k0_pay141]

/-- The second row buffer as the last product reads it. -/
theorem rows_b (c : Dev nD) (arg0 : Memref sig .tc .vmem S1024x1280 .f32) (harg0 : arg0.IsWhole)
    (arg2 : Memref sig .tc .vmem S512x64 .f32) (harg2 : arg2.IsWhole) (arg3 : Memref sig .tc .vmem S512x64 .f32) (harg3 : arg3.IsWhole)
    (arg4 : Memref sig .tc .vmem S1x512 .f32) (harg4 : arg4.IsWhole) (arg5 : Memref sig .tc .vmem S1x512 .f32) (harg5 : arg5.IsWhole)
    (arg13 : Memref sig .tc .vmem S1024x320 .f32) (arg15 : Memref sig .tc .vmem S320x256 .f32)
    (x0 : Vec F S1024x1280 .f32) (x2 x3 : Vec F S512x64 .f32) (x4 x5 : Vec F S1x512 .f32) :
    kernelRun0_A.sl.v641 c arg0 harg0 arg2 harg2 arg3 harg3 arg4 harg4 arg5 harg5 arg13 arg15 x0 x2 x3 x4 x5
      = rows (kernelRun0_A.sl.r_4 c arg4 harg4 arg5 harg5 x4 x5)
          (kernelRun0_A.sl.v164 c arg2 harg2 arg3 harg3 arg15 x2 x3) x0 19 := by
  simp only [load_joined, load_block, shapeCast_self, rows, affine,
    kernelRun0_A.sl.v641, kernelRun0_A.sl.HS1_40, kernelRun0_A.sl.v617, kernelRun0_A.sl.HS1_38, kernelRun0_A.sl.v593,
    kernelRun0_A.sl.HS1_36, kernelRun0_A.sl.r_18, kernelRun0_A.sl.v569, kernelRun0_A.sl.HS1_34, kernelRun0_A.sl.r_17,
    kernelRun0_A.sl.v545, kernelRun0_A.sl.HS1_32, kernelRun0_A.sl.v521, kernelRun0_A.sl.HS1_30, kernelRun0_A.sl.v497,
    kernelRun0_A.sl.HS1_28, kernelRun0_A.sl.r_15, kernelRun0_A.sl.v473, kernelRun0_A.sl.HS1_26, kernelRun0_A.sl.r_14,
    kernelRun0_A.sl.v449, kernelRun0_A.sl.HS1_24, kernelRun0_A.sl.v425, kernelRun0_A.sl.HS1_22, kernelRun0_A.sl.v401,
    kernelRun0_A.sl.HS1_20, kernelRun0_A.sl.r_12, kernelRun0_A.sl.v377, kernelRun0_A.sl.HS1_18, kernelRun0_A.sl.r_10,
    kernelRun0_A.sl.v353, kernelRun0_A.sl.HS1_16, kernelRun0_A.sl.v329, kernelRun0_A.sl.HS1_14, kernelRun0_A.sl.r_9,
    kernelRun0_A.sl.v305, kernelRun0_A.sl.HS1_12, kernelRun0_A.sl.r_8, kernelRun0_A.sl.v281, kernelRun0_A.sl.HS1_10,
    kernelRun0_A.sl.v257, kernelRun0_A.sl.HS1_8, kernelRun0_A.sl.v233, kernelRun0_A.sl.HS1_6, kernelRun0_A.sl.r_6,
    kernelRun0_A.sl.v209, kernelRun0_A.sl.HS1_4, kernelRun0_A.sl.r_5, kernelRun0_A.sl.v185, kernelRun0_A.sl.HS1_2,
    kernelRun0_A.sl.cst_162, k0_pay35, k0_pay36, k0_pay38, k0_pay39, k0_pay41, k0_pay42, k0_pay44, k0_pay46,
    k0_pay47, k0_pay49, k0_pay51, k0_pay52, k0_pay54, k0_pay57, k0_pay58, k0_pay60, k0_pay62, k0_pay63, k0_pay65,
    k0_pay67, k0_pay68, k0_pay70, k0_pay72, k0_pay73, k0_pay75, k0_pay76, k0_pay79, k0_pay80, k0_pay82, k0_pay84,
    k0_pay85, k0_pay87, k0_pay89, k0_pay90, k0_pay92, k0_pay94, k0_pay95, k0_pay97, k0_pay99, k0_pay101, k0_pay102,
    k0_pay104, k0_pay106, k0_pay107, k0_pay109, k0_pay111, k0_pay112, k0_pay114, k0_pay117, k0_pay118, k0_pay120,
    k0_pay121, k0_pay123, k0_pay124, k0_pay126, k0_pay128, k0_pay129, k0_pay131, k0_pay133, k0_pay134, k0_pay136,
    k0_pay139, k0_pay140, k0_pay142]

end Cert.KernelIdeal.Cells

end
-- ==== Proof.KWeights.lean ====
/- The block weights the body builds: the two recurrences' `[320, 256]` matrices and the first dense layer's
   `[512, 160]` matrix, each zero off its experts' blocks. -/
module

public import proofs.«01_k».proof.Proof.KReads

@[expose] public section

set_option maxRecDepth 16384
set_option maxHeartbeats 2000000

noncomputable section

namespace Cert.KernelIdeal.Cells

open Cert.KernelIdeal Cert.KernelIdeal.Gen
open Idealize.ShloMosaic Idealize.ShloMosaic.TcCoe

variable {F : FTy → Type} [FloatOps F]

/-- Four experts' recurrent weights, the first of them at row `base` of the stacked weights: under the 256 hidden
    entries the experts' transposed matrices on the diagonal and zero elsewhere, under the 64 input entries their
    transposed input matrices side by side. -/
def weights (base : ℕ) (x2 x3 : Vec F S512x64 .f32) : Vec F S320x256 .f32 := fun i =>
  if (i 0).val < 256 then
    if (i 0).val / 64 = (i 1).val / 64 then
      x3 (ix2 (Fin.ofNat 512 (base + (i 1).val)) (Fin.ofNat 64 ((i 0).val % 64)))
    else Scalar.ofBits .f32 0x00000000#32
  else x2 (ix2 (Fin.ofNat 512 (base + (i 1).val)) (Fin.ofNat 64 ((i 0).val - 256)))

/-- The eight experts' first dense layers, transposed, on the diagonal of a matrix of zeros. -/
def dense (x6 : Vec F S160x64 .f32) : Vec F S512x160 .f32 := fun i =>
  if (i 0).val / 64 = (i 1).val / 20 then
    x6 (ix2 (Fin.ofNat 160 (i 1).val) (Fin.ofNat 64 ((i 0).val % 64)))
  else Scalar.ofBits .f32 0x00000000#32

section
variable {M N : ℕ} [NeZero M] [NeZero N] {e : EltTy}

/-- A transposed square block at an index reads one entry of the array, -/
theorem square_at (x : Vec F (⟨2, ![M, N]⟩ : Shape) e) {r c a b : ℕ} (i j : Fin 64)
    (ha : (r + j.val) % M = a % M) (hb : (c + i.val) % N = b % N) :
    transpose S64x64 [1, 0] (block r c 64 64 x) transposes_S64x64_p1_0_S64x64 (ix2 i j)
      = x (ix2 (Fin.ofNat M a) (Fin.ofNat N b)) := by
  rw [← show Fin.ofNat M (r + j.val) = Fin.ofNat M a from Fin.ext ha,
    ← show Fin.ofNat N (c + i.val) = Fin.ofNat N b from Fin.ext hb]
  exact congrArg (block r c 64 64 x) (funext (Fin.forall_fin_two.mpr ⟨rfl, rfl⟩) : _ = ix2 j i)

/-- and so does a transposed dense block. -/
theorem dense_at (x : Vec F (⟨2, ![M, N]⟩ : Shape) e) {r c a b : ℕ} (i : Fin 64) (j : Fin 20)
    (ha : (r + j.val) % M = a % M) (hb : (c + i.val) % N = b % N) :
    transpose S64x20 [1, 0] (block r c 20 64 x) transposes_S20x64_p1_0_S64x20 (ix2 i j)
      = x (ix2 (Fin.ofNat M a) (Fin.ofNat N b)) := by
  rw [← show Fin.ofNat M (r + j.val) = Fin.ofNat M a from Fin.ext ha,
    ← show Fin.ofNat N (c + i.val) = Fin.ofNat N b from Fin.ext hb]
  exact congrArg (block r c 20 64 x) (funext (Fin.forall_fin_two.mpr ⟨rfl, rfl⟩) : _ = ix2 j i)

end

/-- The weights on a diagonal block, -/
theorem weights_diag (base : ℕ) (x2 x3 : Vec F S512x64 .f32) (r : Fin 320) (k : Fin 256) (h : r.val < 256)
    (h' : r.val / 64 = k.val / 64) :
    weights base x2 x3 (ix2 r k) = x3 (ix2 (Fin.ofNat 512 (base + k.val)) (Fin.ofNat 64 (r.val % 64))) :=
  (if_pos h).trans (if_pos h')

/-- off the diagonal, -/
theorem weights_off (base : ℕ) (x2 x3 : Vec F S512x64 .f32) (r : Fin 320) (k : Fin 256) (h : r.val < 256)
    (h' : ¬ r.val / 64 = k.val / 64) :
    weights base x2 x3 (ix2 r k) = Scalar.ofBits .f32 0x00000000#32 :=
  (if_pos h).trans (if_neg h')

/-- and under the inputs. -/
theorem weights_in (base : ℕ) (x2 x3 : Vec F S512x64 .f32) (r : Fin 320) (k : Fin 256) (h : ¬ r.val < 256) :
    weights base x2 x3 (ix2 r k) = x2 (ix2 (Fin.ofNat 512 (base + k.val)) (Fin.ofNat 64 (r.val - 256))) :=
  if_neg h

/-- The dense weights on a diagonal block, -/
theorem dense_diag (x6 : Vec F S160x64 .f32) (r : Fin 512) (k : Fin 160) (h : r.val / 64 = k.val / 20) :
    dense x6 (ix2 r k) = x6 (ix2 (Fin.ofNat 160 k.val) (Fin.ofNat 64 (r.val % 64))) :=
  if_pos h

/-- and off the diagonal. -/
theorem dense_off (x6 : Vec F S160x64 .f32) (r : Fin 512) (k : Fin 160) (h : ¬ r.val / 64 = k.val / 20) :
    dense x6 (ix2 r k) = Scalar.ofBits .f32 0x00000000#32 :=
  if_neg h

/-- The first four experts' weights as the products read them. -/
theorem weights_a (c : Dev nD) (arg2 : Memref sig .tc .vmem S512x64 .f32) (harg2 : arg2.IsWhole)
    (arg3 : Memref sig .tc .vmem S512x64 .f32) (harg3 : arg3.IsWhole) (arg14 : Memref sig .tc .vmem S320x256 .f32)
    (x2 x3 : Vec F S512x64 .f32) :
    kernelRun0_A.sl.v163 c arg2 harg2 arg3 harg3 arg14 x2 x3 = weights 0 x2 x3 := by
  funext j
  obtain ⟨r, k, rfl⟩ : ∃ (r : Fin 320) (k : Fin 256), j = ix2 r k := ⟨j 0, j 1, (ix2_eta j).symm⟩
  have hr : r.val < 320 := r.isLt
  have hk : k.val < 256 := k.isLt
  simp only [kernelRun0_A.sl.v163, load_whole, kernelRun0_A.sl.HS2_9, kernelRun0_A.sl.HS2_5, kernelRun0_A.sl.r_1,
    canon_block, k0_pay2, k0_pay5, k0_pay6, k0_pay9, k0_pay10, k0_pay13, k0_pay14, k0_pay15, k0_pay18, k0_pay19, shapeCast_self,
    load_block]
  by_cases hin : r.val < 256
  · by_cases hd : r.val / 64 = k.val / 64
    · rw [weights_diag _ _ _ _ _ hin hd]
      split_ifs <;> first
        | omega
        | (refine square_at _ _ _ ?_ ?_ <;> simp only [Fin.val_ofNat] <;> omega)
    · rw [weights_off _ _ _ _ _ hin hd]
      split_ifs <;> first | omega | rfl
  · rw [weights_in _ _ _ _ _ hin]
    split_ifs <;> first
      | omega
      | (refine square_at _ _ _ ?_ ?_ <;> simp only [Fin.val_ofNat] <;> omega)

/-- The other four experts' weights. -/
theorem weights_b (c : Dev nD) (arg2 : Memref sig .tc .vmem S512x64 .f32) (harg2 : arg2.IsWhole)
    (arg3 : Memref sig .tc .vmem S512x64 .f32) (harg3 : arg3.IsWhole) (arg15 : Memref sig .tc .vmem S320x256 .f32)
    (x2 x3 : Vec F S512x64 .f32) :
    kernelRun0_A.sl.v164 c arg2 harg2 arg3 harg3 arg15 x2 x3 = weights 256 x2 x3 := by
  funext j
  obtain ⟨r, k, rfl⟩ : ∃ (r : Fin 320) (k : Fin 256), j = ix2 r k := ⟨j 0, j 1, (ix2_eta j).symm⟩
  have hr : r.val < 320 := r.isLt
  have hk : k.val < 256 := k.isLt
  simp only [kernelRun0_A.sl.v164, load_whole, kernelRun0_A.sl.HS3_9, kernelRun0_A.sl.r,
    canon_block, k0_pay3, k0_pay7, k0_pay8, k0_pay11, k0_pay12, k0_pay16, k0_pay17, k0_pay20, k0_pay21, shapeCast_self,
    load_block]
  by_cases hin : r.val < 256
  · by_cases hd : r.val / 64 = k.val / 64
    · rw [weights_diag _ _ _ _ _ hin hd]
      split_ifs <;> first
        | omega
        | (refine square_at _ _ _ ?_ ?_ <;> simp only [Fin.val_ofNat] <;> omega)
    · rw [weights_off _ _ _ _ _ hin hd]
      split_ifs <;> first | omega | rfl
  · rw [weights_in _ _ _ _ _ hin]
    split_ifs <;> first
      | omega
      | (refine square_at _ _ _ ?_ ?_ <;> simp only [Fin.val_ofNat] <;> omega)

/-- The dense layers' weights. -/
theorem dense_all (c : Dev nD) (arg6 : Memref sig .tc .vmem S160x64 .f32) (harg6 : arg6.IsWhole)
    (arg16 : Memref sig .tc .vmem S512x160 .f32) (x6 : Vec F S160x64 .f32) :
    kernelRun0_A.sl.v648 c arg6 harg6 arg16 x6 = dense x6 := by
  funext j
  obtain ⟨r, k, rfl⟩ : ∃ (r : Fin 512) (k : Fin 160), j = ix2 r k := ⟨j 0, j 1, (ix2_eta j).symm⟩
  have hr : r.val < 512 := r.isLt
  have hk : k.val < 160 := k.isLt
  simp only [kernelRun0_A.sl.v648, load_whole, kernelRun0_A.sl.HS4_9, kernelRun0_A.sl.r_2,
    canon_block, k0_pay4, k0_pay22, k0_pay23, k0_pay24, k0_pay25, k0_pay26, k0_pay27, k0_pay28, k0_pay29, k0_pay30, shapeCast_self,
    load_block]
  by_cases hd : r.val / 64 = k.val / 20
  · rw [dense_diag _ _ _ hd]
    split_ifs <;> first
      | omega
      | (refine dense_at _ _ _ ?_ ?_ <;> simp only [Fin.val_ofNat] <;> omega)
  · rw [dense_off _ _ _ hd]
    split_ifs <;> first | omega | rfl

end Cert.KernelIdeal.Cells

end
-- ==== Proof.KOut.lean ====
/- What the body leaves in its two output blocks, as terms over its input blocks. -/
module

public import proofs.«01_k».proof.Proof.KChain
public import proofs.«01_k».proof.Proof.KWeights

@[expose] public section

set_option maxRecDepth 16384

noncomputable section

namespace Cert.KernelIdeal.Cells

open Cert.KernelIdeal Cert.KernelIdeal.Gen
open Idealize.ShloMosaic Idealize.ShloMosaic.TcCoe

variable {F : FTy → Type} [FloatOps F]

/-- The block of everything is everything. -/
theorem block_whole {α : Type} {M N : ℕ} [NeZero M] [NeZero N] (x : (⟨2, ![M, N]⟩ : Shape).Idx → α) :
    block 0 0 M N x = x := by
  funext j
  obtain ⟨r, k, rfl⟩ : ∃ (r : Fin M) (k : Fin N), j = ix2 r k := ⟨j 0, j 1, (ix2_eta j).symm⟩
  show x (ix2 (Fin.ofNat M (0 + r.val)) (Fin.ofNat N (0 + k.val))) = x (ix2 r k)
  rw [Nat.zero_add, Nat.zero_add, show Fin.ofNat M r.val = r from Fin.ext (Nat.mod_eq_of_lt r.isLt),
    show Fin.ofNat N k.val = k from Fin.ext (Nat.mod_eq_of_lt k.isLt)]

/-- A buffer whose newest store covered it holds what was stored. -/
theorem canon_whole {M N : ℕ} [NeZero M] [NeZero N] {e : EltTy} {Val : EltTy → Type} [∀ e, Nonempty (Val e)]
    (inb : ∀ d, (![0, 0] : Fin 2 → ℕ) d + (![M, N] : Fin 2 → ℕ) d ≤ (![M, N] : Fin 2 → ℕ) d)
    (w : (⟨2, ![M, N]⟩ : Shape).Idx → Val e) (L : List (View.Piece Val (⟨2, ![M, N]⟩ : Shape) e)) :
    View.canon ((⟨Rect.unit (s := ⟨2, ![M, N]⟩) ![0, 0] ![M, N] inb, w⟩ : View.Piece Val (⟨2, ![M, N]⟩ : Shape) e) :: L) = w := by
  funext j
  obtain ⟨r, k, rfl⟩ : ∃ (r : Fin M) (k : Fin N), j = ix2 r k := ⟨j 0, j 1, (ix2_eta j).symm⟩
  have hr := r.isLt
  have hk := k.isLt
  refine (canon_block inb w L r k).trans ?_
  rw [if_pos (by omega), show Fin.ofNat M (r.val - 0) = r from Fin.ext (Nat.mod_eq_of_lt r.isLt),
    show Fin.ofNat N (k.val - 0) = k from Fin.ext (Nat.mod_eq_of_lt k.isLt)]

/-- The eight experts' outputs over the blocks the body loads. -/
def expertsOut (x0 : Vec F S1024x1280 .f32) (x2 x3 : Vec F S512x64 .f32) (x4 x5 : Vec F S1x512 .f32)
    (x6 : Vec F S160x64 .f32) (x7 x8 : Vec F S1x160 .f32) (x9 : Vec F S1x8 .f32) : FVec F S1024x8 .f32 :=
  k0_pay145
    (k0_pay143 (k0_pay32 x4 x5) (k0_pay33 x4 x5) (weights 0 x2 x3) (weights 256 x2 x3)
      (rows (k0_pay32 x4 x5) (weights 0 x2 x3) x0 19) (rows (k0_pay33 x4 x5) (weights 256 x2 x3) x0 19) (dense x6))
    (k0_pay144 x7) x8 x9

variable (c : Dev nD)
  (arg0 : Memref sig .tc .vmem S1024x1280 .f32) (harg0 : arg0.IsWhole) (arg1 : Memref sig .tc .vmem S64x8 .f32) (harg1 : arg1.IsWhole)
  (arg2 : Memref sig .tc .vmem S512x64 .f32) (harg2 : arg2.IsWhole) (arg3 : Memref sig .tc .vmem S512x64 .f32) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S160x64 .f32) (harg6 : arg6.IsWhole) (arg7 : Memref sig .tc .vmem S1x160 .f32) (harg7 : arg7.IsWhole)
  (arg8 : Memref sig .tc .vmem S1x160 .f32) (harg8 : arg8.IsWhole) (arg9 : Memref sig .tc .vmem S1x8 .f32) (harg9 : arg9.IsWhole)
  (arg10 : Memref sig .tc .vmem S1024x1 .f32) (harg10 : arg10.IsWhole) (arg11 : Memref sig .tc .vmem S1x1 .f32) (harg11 : arg11.IsWhole)
  (arg12 : Memref sig .tc .vmem S1024x320 .f32) (harg12 : arg12.IsWhole) (arg13 : Memref sig .tc .vmem S1024x320 .f32) (harg13 : arg13.IsWhole)
  (arg14 : Memref sig .tc .vmem S320x256 .f32) (harg14 : arg14.IsWhole) (arg15 : Memref sig .tc .vmem S320x256 .f32) (harg15 : arg15.IsWhole)
  (arg16 : Memref sig .tc .vmem S512x160 .f32) (harg16 : arg16.IsWhole)
  (x0 : Vec F S1024x1280 .f32) (x1 : Vec F S64x8 .f32) (x2 x3 : Vec F S512x64 .f32) (x4 x5 : Vec F S1x512 .f32)
  (x6 : Vec F S160x64 .f32) (x7 x8 : Vec F S1x160 .f32) (x9 : Vec F S1x8 .f32)

/-- The output block is the gated row sum of the experts' outputs. -/
theorem y_block :
    out0_A_10 c arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 x0 x1 x2 x3 x4 x5 x6 x7 x8 x9
      = k0_pay148 (expertsOut x0 x2 x3 x4 x5 x6 x7 x8 x9) (block 0 1216 1024 64 x0) x1 := by
  refine (View.read_writes_junk_eq_canon _ _).trans ?_
  simp only [kernelRun0_A, kernelRun0_A.sl.r_25, kernelRun0_A.sl.r_22, kernelRun0_A.sl.r_20,
    kernelRun0_A.sl.r_21, kernelRun0_A.sl.r_23, rows_a, rows_b, weights_a, weights_b, dense_all, kernelRun0_A.sl.r_3,
    kernelRun0_A.sl.r_4, canon_whole, load_block, block_whole, k0_pay146, shapeCast_self, expertsOut]

/-- The loss block is the two squared coefficients of variation of the gates, added and scaled. -/
theorem loss_block :
    out0_A_11 c arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 x0 x1 x2 x3 x4 x5 x6 x7 x8 x9
      = k0_pay1 (k0_pay149 (k0_pay147 (block 0 1216 1024 64 x0) x1)) k0_pay150 := by
  refine (View.read_writes_junk_eq_canon _ _).trans ?_
  simp only [kernelRun0_A, kernelRun0_A.sl.r_26, kernelRun0_A.sl.r_24,
    kernelRun0_A.sl.r_23, canon_whole, load_block, block_whole, k0_pay146, shapeCast_self]

end Cert.KernelIdeal.Cells

end
-- ==== Proof.Spec.lean ====
/- What the layer computes, written as plain sums over the extended reals: eight recurrent experts, a top-two gate on
   the last time step, the gated sum of the experts' outputs and the two squared coefficients of variation. -/
module

public import Idealize.ShloMosaic.PureOps.Ideal

@[expose] public section

noncomputable section

namespace Cert.Spec

open Idealize.ShloMosaic
open scoped BigOperators

/-- The arrays the layer reads: the input by row, time step and feature; the gate weights; per expert the two
    recurrent matrices, the two recurrent biases, the two dense layers and their biases. -/
structure Params where
  x : Fin 1024 → Fin 20 → Fin 64 → EReal
  wg : Fin 64 → Fin 8 → EReal
  wih : Fin 8 → Fin 64 → Fin 64 → EReal
  whh : Fin 8 → Fin 64 → Fin 64 → EReal
  bih : Fin 8 → Fin 64 → EReal
  bhh : Fin 8 → Fin 64 → EReal
  fc1 : Fin 8 → Fin 20 → Fin 64 → EReal
  b1 : Fin 8 → Fin 20 → EReal
  fc2 : Fin 8 → Fin 20 → EReal
  b2 : Fin 8 → EReal

/-- Index `i` is the first at which the row `l` takes its greatest value. -/
def IsTop (l : Fin 8 → EReal) (i : Fin 8) : Prop := ∀ j, l j < l i ∨ (l j = l i ∧ i ≤ j)

open Classical in
/-- The first index at which the row takes its greatest value. -/
def first (l : Fin 8 → EReal) : Fin 8 := if h : ∃ i, IsTop l i then h.choose else 0

/-- The row with its first greatest value replaced by minus infinity. -/
def masked (l : Fin 8 → EReal) : Fin 8 → EReal := fun j => if j = first l then ⊥ else l j

/-- The second of the two exponentials of the gate, both relative to the greatest value: the first is one. -/
def expSnd (l : Fin 8 → EReal) : EReal := Ideal.exp (masked l (first (masked l)) - l (first l))

/-- The gate of one row: the two greatest values' shares of their exponentials, zero elsewhere. -/
def gate (l : Fin 8 → EReal) (e : Fin 8) : EReal :=
  (if e = first l then Ideal.div 1 (1 + expSnd l) else 0)
    + (if e = first (masked l) then Ideal.div (expSnd l) (1 + expSnd l) else 0)

/-- The squared coefficient of variation of eight numbers: the unbiased variance over the squared mean plus `eps`. -/
def cvSq (eps : EReal) (v : Fin 8 → EReal) : EReal :=
  Ideal.div
    (Ideal.div (∑ e, (v e - Ideal.div (∑ e, v e) 8) * (v e - Ideal.div (∑ e, v e) 8)) 7)
    (Ideal.div (∑ e, v e) 8 * Ideal.div (∑ e, v e) 8 + eps)

namespace Params

variable (p : Params)

/-- The gate's logits, from the last time step. -/
def logit (b : Fin 1024) (e : Fin 8) : EReal := ∑ i, p.x b 19 i * p.wg i e

/-- An expert's activation before the hyperbolic tangent, from time step `t` and the hidden state `h`. -/
def pre (t : ℕ) (h : Fin 8 → Fin 1024 → Fin 64 → EReal) (e : Fin 8) (b : Fin 1024) (j : Fin 64) : EReal :=
  (∑ i, p.x b (Fin.ofNat 20 t) i * p.wih e j i) + (∑ g, h e b g * p.whh e j g) + p.bih e j + p.bhh e j

/-- The hidden states after `t` time steps, from zero. -/
def hid : ℕ → Fin 8 → Fin 1024 → Fin 64 → EReal
  | 0 => fun _ _ _ => 0
  | t + 1 => fun e b j => Ideal.tanh (pre p t (hid t) e b j)

/-- The first dense layer of an expert after all twenty time steps. -/
def feat (e : Fin 8) (b : Fin 1024) (o : Fin 20) : EReal :=
  Ideal.tanh ((∑ h, p.hid 20 e b h * p.fc1 e o h) + p.b1 e o)

/-- An expert's output. -/
def out (e : Fin 8) (b : Fin 1024) : EReal := (∑ o, p.feat e b o * p.fc2 e o) + p.b2 e

/-- The gate of row `b`. -/
def gates (b : Fin 1024) (e : Fin 8) : EReal := gate (p.logit b) e

/-- The layer's output. -/
def y (b : Fin 1024) : EReal := ∑ e, p.gates b e * p.out e b

/-- An expert's importance: the sum of its gates over the rows. -/
def importance (e : Fin 8) : EReal := ∑ b, p.gates b e

/-- An expert's load: the number of rows that give it a positive gate. -/
def load (e : Fin 8) : EReal := ∑ b, if 0 < p.gates b e then 1 else 0

/-- The balance loss, with the two literals `eps` and `scale`. -/
def loss (eps scale : EReal) : EReal := (cvSq eps p.importance + cvSq eps p.load) * scale

end Params

end Cert.Spec

end
-- ==== Proof.Sums.lean ====
/- Sums over blocked indices, and eight-term picks out of a block diagonal. -/
module

public import Mathlib.Data.EReal.Operations
public import Mathlib.Algebra.BigOperators.Fin

@[expose] public section

namespace Cert.Sums

open scoped BigOperators

/-- A sum over `m * n` indices is the sum over `m` blocks of `n`. -/
theorem blocks {m n K : ℕ} [NeZero K] (h : m * n = K) (f : Fin K → EReal) :
    ∑ k, f k = ∑ g : Fin m, ∑ j : Fin n, f (Fin.ofNat K (n * g.val + j.val)) := by
  subst h
  rw [← finProdFinEquiv.sum_comp, Fintype.sum_prod_type]
  refine Finset.sum_congr rfl fun g _ => Finset.sum_congr rfl fun j _ => congrArg f (Fin.ext ?_)
  have := (finProdFinEquiv (g, j)).isLt
  show j.val + n * g.val = (n * g.val + j.val) % (m * n)
  rw [finProdFinEquiv_apply_val] at this
  simp only at this
  rw [Nat.mod_eq_of_lt (by omega)]; omega

/-- A sum over `a + b` indices is the sum over the first `a` plus the sum over the last `b`. -/
theorem split {a b K : ℕ} [NeZero K] (h : a + b = K) (f : Fin K → EReal) :
    ∑ k, f k = (∑ i : Fin a, f (Fin.ofNat K i.val)) + ∑ i : Fin b, f (Fin.ofNat K (a + i.val)) := by
  subst h
  rw [Fin.sum_univ_add]
  refine congrArg₂ (· + ·) (Finset.sum_congr rfl fun i _ => congrArg f (Fin.ext ?_))
    (Finset.sum_congr rfl fun i _ => congrArg f (Fin.ext ?_))
  · have := i.isLt
    show i.val = i.val % (a + b)
    rw [Nat.mod_eq_of_lt (by omega)]
  · have := i.isLt
    show a + i.val = (a + i.val) % (a + b)
    rw [Nat.mod_eq_of_lt (by omega)]

/-- Of a sum of blocks all but one of which vanish, that one is left. -/
theorem pick {m n : ℕ} (e : Fin m) (f : Fin m → Fin n → EReal) (h : ∀ g, g ≠ e → ∀ j, f g j = 0) :
    ∑ g, ∑ j, f g j = ∑ j, f e j :=
  Finset.sum_eq_single e (fun g _ hg => Finset.sum_eq_zero fun j _ => h g hg j)
    (fun he => absurd (Finset.mem_univ e) he)

end Cert.Sums
-- ==== Proof.KRec.lean ====
/- The recurrence over the extended reals: the rows the body multiplies hold the experts' hidden states, because the
   blocks off the diagonal of the weights are zero. -/
module

public import proofs.«01_k».proof.Proof.KOut
public import proofs.«01_k».proof.Proof.Spec
public import proofs.«01_k».proof.Proof.Sums

@[expose] public section

set_option maxRecDepth 16384

noncomputable section

namespace Cert.KernelIdeal.Cells

open Cert.KernelIdeal Cert.KernelIdeal.Gen
open Idealize.ShloMosaic Idealize.ShloMosaic.TcCoe
open scoped BigOperators

/-- The body's input blocks hold the layer's arrays, laid out in two dimensions. -/
structure Reads (p : Spec.Params) (x0 : Vec Ideal S1024x1280 .f32) (x1 : Vec Ideal S64x8 .f32) (x2 x3 : Vec Ideal S512x64 .f32)
    (x4 x5 : Vec Ideal S1x512 .f32) (x6 : Vec Ideal S160x64 .f32) (x7 x8 : Vec Ideal S1x160 .f32) (x9 : Vec Ideal S1x8 .f32) :
    Prop where
  x : ∀ b (t : Fin 20) (i : Fin 64), x0 (ix2 b (Fin.ofNat 1280 (64 * t.val + i.val))) = p.x b t i
  wg : ∀ i e, x1 (ix2 i e) = p.wg i e
  wih : ∀ (e : Fin 8) (j i : Fin 64), x2 (ix2 (Fin.ofNat 512 (64 * e.val + j.val)) i) = p.wih e j i
  whh : ∀ (e : Fin 8) (j i : Fin 64), x3 (ix2 (Fin.ofNat 512 (64 * e.val + j.val)) i) = p.whh e j i
  bih : ∀ (e : Fin 8) (j : Fin 64), x4 (ix2 0 (Fin.ofNat 512 (64 * e.val + j.val))) = p.bih e j
  bhh : ∀ (e : Fin 8) (j : Fin 64), x5 (ix2 0 (Fin.ofNat 512 (64 * e.val + j.val))) = p.bhh e j
  fc1 : ∀ (e : Fin 8) (o : Fin 20) (h : Fin 64), x6 (ix2 (Fin.ofNat 160 (20 * e.val + o.val)) h) = p.fc1 e o h
  b1 : ∀ (e : Fin 8) (o : Fin 20), x7 (ix2 0 (Fin.ofNat 160 (20 * e.val + o.val))) = p.b1 e o
  fc2 : ∀ (e : Fin 8) (o : Fin 20), x8 (ix2 0 (Fin.ofNat 160 (20 * e.val + o.val))) = p.fc2 e o
  b2 : ∀ e : Fin 8, x9 (ix2 0 e) = p.b2 e

/-- The literal zero is zero. -/
theorem zero_lit : (Scalar.ofBits .f32 0x00000000#32 : Ideal .f32) = (0 : EReal) := by
  pointwise

variable {p : Spec.Params} {x0 : Vec Ideal S1024x1280 .f32} {x1 : Vec Ideal S64x8 .f32} {x2 x3 : Vec Ideal S512x64 .f32}
  {x4 x5 : Vec Ideal S1x512 .f32} {x6 : Vec Ideal S160x64 .f32} {x7 x8 : Vec Ideal S1x160 .f32} {x9 : Vec Ideal S1x8 .f32}

/-- One entry of the affine map: the row buffer against a column of the weights, plus the bias. -/
theorem affine_apply (b : FVec Ideal S1x256 .f32) (w : Vec Ideal S320x256 .f32) (xh : Vec Ideal S1024x320 .f32)
    (r : Fin 1024) (k : Fin 256) : affine b w xh (ix2 r k) = ∑ x, xh (ix2 r x) * w (ix2 x k) + b (ix2 0 k) := by
  pointwise [affine]

/-- The first four experts' bias, -/
theorem bias_a (k : Fin 256) : k0_pay32 x4 x5 (ix2 0 k) = x4 (ix2 0 (Fin.ofNat 512 k.val)) + x5 (ix2 0 (Fin.ofNat 512 k.val)) := by
  pointwise [k0_pay32, k0_pay31]
  rw [show Fin.ofNat 512 k.val = ⟨k.val, by omega⟩ from Fin.ext (Nat.mod_eq_of_lt (by omega))]

/-- and the last four's. -/
theorem bias_b (k : Fin 256) :
    k0_pay33 x4 x5 (ix2 0 k) = x4 (ix2 0 (Fin.ofNat 512 (256 + k.val))) + x5 (ix2 0 (Fin.ofNat 512 (256 + k.val))) := by
  pointwise [k0_pay33, k0_pay31]
  rw [show Fin.ofNat 512 (256 + k.val) = ⟨256 + k.val, by omega⟩ from Fin.ext (Nat.mod_eq_of_lt (by omega))]

/-- A row buffer holds four experts' hidden states, the first of them expert `e0`, and time step `t`. -/
structure Holds (p : Spec.Params) (e0 t : ℕ) (h : Fin 8 → Fin 1024 → Fin 64 → EReal) (xh : Vec Ideal S1024x320 .f32) : Prop where
  hid : ∀ r (g : Fin 4) (j : Fin 64), xh (ix2 r (Fin.ofNat 320 (64 * g.val + j.val))) = h (Fin.ofNat 8 (e0 + g.val)) r j
  inp : ∀ r (i : Fin 64), xh (ix2 r (Fin.ofNat 320 (256 + i.val))) = p.x r (Fin.ofNat 20 t) i

/-- One step of four experts: the affine map of such a row buffer is their activation. -/
theorem step_apply (H : Reads p x0 x1 x2 x3 x4 x5 x6 x7 x8 x9) {e0 t : ℕ} (he : e0 + 4 ≤ 8) {h : Fin 8 → Fin 1024 → Fin 64 → EReal}
    {xh : Vec Ideal S1024x320 .f32} (hxh : Holds p e0 t h xh) {b : FVec Ideal S1x256 .f32}
    (hb : ∀ k : Fin 256, b (ix2 0 k) = x4 (ix2 0 (Fin.ofNat 512 (64 * e0 + k.val))) + x5 (ix2 0 (Fin.ofNat 512 (64 * e0 + k.val))))
    (r : Fin 1024) (g : Fin 4) (j : Fin 64) :
    affine b (weights (64 * e0) x2 x3) xh (ix2 r (Fin.ofNat 256 (64 * g.val + j.val)))
      = p.pre t h (Fin.ofNat 8 (e0 + g.val)) r j := by
  have hg := g.isLt
  have hj := j.isLt
  have hcol : (Fin.ofNat 256 (64 * g.val + j.val)).val = 64 * g.val + j.val := Nat.mod_eq_of_lt (by omega)
  have hexp : (Fin.ofNat 8 (e0 + g.val)).val = e0 + g.val := Nat.mod_eq_of_lt (by omega)
  rw [affine_apply, hb, hcol, Sums.split (a := 256) (b := 64) rfl, Sums.blocks (m := 4) (n := 64) rfl]
  have hrow : 64 * e0 + (64 * g.val + j.val) = 64 * (Fin.ofNat 8 (e0 + g.val)).val + j.val := by rw [hexp]; omega
  rw [hrow, H.bih, H.bhh]
  have hidden : (∑ g' : Fin 4, ∑ j' : Fin 64,
        xh (ix2 r (Fin.ofNat 320 (Fin.ofNat 256 (64 * g'.val + j'.val)).val))
          * weights (64 * e0) x2 x3 (ix2 (Fin.ofNat 320 (Fin.ofNat 256 (64 * g'.val + j'.val)).val) (Fin.ofNat 256 (64 * g.val + j.val))))
      = ∑ i, h (Fin.ofNat 8 (e0 + g.val)) r i * p.whh (Fin.ofNat 8 (e0 + g.val)) j i := by
    have hpos : ∀ (g' : Fin 4) (j' : Fin 64), (Fin.ofNat 256 (64 * g'.val + j'.val)).val = 64 * g'.val + j'.val :=
      fun g' j' => Nat.mod_eq_of_lt (by omega)
    have hpos' : ∀ (g' : Fin 4) (j' : Fin 64), (Fin.ofNat 320 (64 * g'.val + j'.val)).val = 64 * g'.val + j'.val :=
      fun g' j' => Nat.mod_eq_of_lt (by omega)
    simp only [hpos]
    rw [Sums.pick g]
    · refine Finset.sum_congr rfl fun i _ => ?_
      have hi := i.isLt
      rw [hxh.hid, weights_diag _ _ _ _ _ (by rw [hpos']; omega) (by rw [hpos', hcol]; omega), hcol, hrow, hpos',
        show Fin.ofNat 64 ((64 * g.val + i.val) % 64) = i from Fin.ext (by show (64 * g.val + i.val) % 64 % 64 = i.val; omega), H.whh]
    · intro g' hg' i
      have hi := i.isLt
      have hne : g'.val ≠ g.val := fun h => hg' (Fin.ext h)
      rw [weights_off _ _ _ _ _ (by rw [hpos']; omega) (by rw [hpos', hcol]; omega), zero_lit, mul_zero]
  have input : (∑ i : Fin 64, xh (ix2 r (Fin.ofNat 320 (256 + i.val)))
          * weights (64 * e0) x2 x3 (ix2 (Fin.ofNat 320 (256 + i.val)) (Fin.ofNat 256 (64 * g.val + j.val))))
      = ∑ i, p.x r (Fin.ofNat 20 t) i * p.wih (Fin.ofNat 8 (e0 + g.val)) j i := by
    have hpos' : ∀ i : Fin 64, (Fin.ofNat 320 (256 + i.val)).val = 256 + i.val := fun i => Nat.mod_eq_of_lt (by omega)
    refine Finset.sum_congr rfl fun i _ => ?_
    have hi := i.isLt
    rw [hxh.inp, weights_in _ _ _ _ _ (by rw [hpos']; omega), hcol, hrow, hpos',
      show Fin.ofNat 64 (256 + i.val - 256) = i from Fin.ext (by show (256 + i.val - 256) % 64 = i.val; omega), H.wih]
  rw [hidden, input]
  unfold Spec.Params.pre
  rw [add_comm (∑ i, h _ r i * _), add_assoc (_ + _)]

/-- Two blocks side by side hold what the blocks hold. -/
theorem holds_joined {e0 t : ℕ} {h : Fin 8 → Fin 1024 → Fin 64 → EReal} {q : Vec Ideal S1024x256 .f32} {z : Vec Ideal S1024x64 .f32}
    (hq : ∀ r (g : Fin 4) (j : Fin 64), q (ix2 r (Fin.ofNat 256 (64 * g.val + j.val))) = h (Fin.ofNat 8 (e0 + g.val)) r j)
    (hz : ∀ r (i : Fin 64), z (ix2 r i) = p.x r (Fin.ofNat 20 t) i) : Holds p e0 t h (joined q z) where
  hid r g j := by
    have hg := g.isLt
    have hj := j.isLt
    have hpos : (Fin.ofNat 320 (64 * g.val + j.val)).val = 64 * g.val + j.val := Nat.mod_eq_of_lt (by omega)
    refine (if_pos (by show (Fin.ofNat 320 (64 * g.val + j.val)).val < 256; rw [hpos]; omega)).trans ?_
    show q (ix2 r (Fin.ofNat 256 (Fin.ofNat 320 (64 * g.val + j.val)).val)) = _
    rw [hpos, hq]
  inp r i := by
    have hi := i.isLt
    have hpos : (Fin.ofNat 320 (256 + i.val)).val = 256 + i.val := Nat.mod_eq_of_lt (by omega)
    refine (if_neg (by show ¬ (Fin.ofNat 320 (256 + i.val)).val < 256; rw [hpos]; omega)).trans ?_
    show z (ix2 r (Fin.ofNat 64 ((Fin.ofNat 320 (256 + i.val)).val - 256))) = _
    rw [hpos, show Fin.ofNat 64 (256 + i.val - 256) = i from Fin.ext (by show (256 + i.val - 256) % 64 = i.val; omega), hz]

/-- The columns of one time step. -/
theorem step_block (H : Reads p x0 x1 x2 x3 x4 x5 x6 x7 x8 x9) (t : ℕ) (ht : t < 20) (r : Fin 1024) (i : Fin 64) :
    block 0 (64 * t) 1024 64 x0 (ix2 r i) = p.x r (Fin.ofNat 20 t) i := by
  show x0 (ix2 (Fin.ofNat 1024 (0 + r.val)) (Fin.ofNat 1280 (64 * t + i.val))) = _
  rw [Nat.zero_add, show Fin.ofNat 1024 r.val = r from Fin.ext (Nat.mod_eq_of_lt r.isLt), ← H.x]
  rw [show (Fin.ofNat 20 t).val = t from Nat.mod_eq_of_lt ht]

/-- The rows before step `t`'s product hold the hidden states after `t` steps and time step `t`. -/
theorem holds_rows (H : Reads p x0 x1 x2 x3 x4 x5 x6 x7 x8 x9) {e0 : ℕ} (he : e0 + 4 ≤ 8) {b : FVec Ideal S1x256 .f32}
    (hb : ∀ k : Fin 256, b (ix2 0 k) = x4 (ix2 0 (Fin.ofNat 512 (64 * e0 + k.val))) + x5 (ix2 0 (Fin.ofNat 512 (64 * e0 + k.val)))) :
    ∀ t, t < 20 → Holds p e0 t (p.hid t) (rows b (weights (64 * e0) x2 x3) x0 t)
  | 0, ht => holds_joined (fun r g j => zero_lit) (step_block H 0 ht)
  | t + 1, ht => holds_joined
      (fun r g j => congrArg Ideal.tanh (step_apply H he (holds_rows H he hb t (by omega)) hb r g j))
      (step_block H (t + 1) ht)

/-- The hidden states after the last step. -/
theorem last_apply (H : Reads p x0 x1 x2 x3 x4 x5 x6 x7 x8 x9) {e0 : ℕ} (he : e0 + 4 ≤ 8) {b : FVec Ideal S1x256 .f32}
    (hb : ∀ k : Fin 256, b (ix2 0 k) = x4 (ix2 0 (Fin.ofNat 512 (64 * e0 + k.val))) + x5 (ix2 0 (Fin.ofNat 512 (64 * e0 + k.val))))
    (r : Fin 1024) (g : Fin 4) (j : Fin 64) :
    Ideal.tanh (affine b (weights (64 * e0) x2 x3) (rows b (weights (64 * e0) x2 x3) x0 19) (ix2 r (Fin.ofNat 256 (64 * g.val + j.val))))
      = p.hid 20 (Fin.ofNat 8 (e0 + g.val)) r j :=
  congrArg Ideal.tanh (step_apply H he (holds_rows H he hb 19 (by omega)) hb r g j)

end Cert.KernelIdeal.Cells

end
-- ==== Proof.KExperts.lean ====
/- The experts' outputs over the extended reals: the two dense layers, whose block weights are zero off their experts'
   blocks. -/
module

public import proofs.«01_k».proof.Proof.KRec

@[expose] public section

set_option maxRecDepth 16384

noncomputable section

namespace Cert.KernelIdeal.Cells

open Cert.KernelIdeal Cert.KernelIdeal.Gen
open Idealize.ShloMosaic Idealize.ShloMosaic.TcCoe
open scoped BigOperators

variable {p : Spec.Params} {x0 : Vec Ideal S1024x1280 .f32} {x1 : Vec Ideal S64x8 .f32} {x2 x3 : Vec Ideal S512x64 .f32}
  {x4 x5 : Vec Ideal S1x512 .f32} {x6 : Vec Ideal S160x64 .f32} {x7 x8 : Vec Ideal S1x160 .f32} {x9 : Vec Ideal S1x8 .f32}

/-- One entry of the first dense layer: the two halves of the hidden state against a column of the weights. -/
theorem hidden_dense (b b' : FVec Ideal S1x256 .f32) (w w' : Vec Ideal S320x256 .f32) (q q' : Vec Ideal S1024x320 .f32)
    (d : Vec Ideal S512x160 .f32) (r : Fin 1024) (k : Fin 160) :
    k0_pay143 b b' w w' q q' d (ix2 r k)
      = ∑ x : Fin 256, Ideal.tanh (affine b w q (ix2 r x)) * d (ix2 (Fin.ofNat 512 (64 * 0 + x.val)) k)
        + ∑ x : Fin 256, Ideal.tanh (affine b' w' q' (ix2 r x)) * d (ix2 (Fin.ofNat 512 (64 * 4 + x.val)) k) := by
  have lo : ∀ x : Fin 256, (Fin.ofNat 512 (64 * 0 + x.val)) = ⟨x.val, by omega⟩ := fun x => Fin.ext (by
    show (64 * 0 + x.val) % 512 = x.val; omega)
  have hi : ∀ x : Fin 256, (Fin.ofNat 512 (64 * 4 + x.val)) = ⟨256 + x.val, by omega⟩ := fun x => Fin.ext (by
    show (64 * 4 + x.val) % 512 = 256 + x.val; omega)
  simp only [lo, hi]
  pointwise [k0_pay143, affine]

/-- Half of that sum: the part of expert `e` if it is one of the half's four, else nothing. -/
theorem half_dense (H : Reads p x0 x1 x2 x3 x4 x5 x6 x7 x8 x9) {e0 : ℕ} (he : e0 + 4 ≤ 8) {b : FVec Ideal S1x256 .f32}
    (hb : ∀ k : Fin 256, b (ix2 0 k) = x4 (ix2 0 (Fin.ofNat 512 (64 * e0 + k.val))) + x5 (ix2 0 (Fin.ofNat 512 (64 * e0 + k.val))))
    (r : Fin 1024) (e : Fin 8) (o : Fin 20) :
    (∑ x : Fin 256, Ideal.tanh (affine b (weights (64 * e0) x2 x3) (rows b (weights (64 * e0) x2 x3) x0 19) (ix2 r x))
        * dense x6 (ix2 (Fin.ofNat 512 (64 * e0 + x.val)) (Fin.ofNat 160 (20 * e.val + o.val))))
      = if e0 ≤ e.val ∧ e.val < e0 + 4 then ∑ h, p.hid 20 e r h * p.fc1 e o h else 0 := by
  have hcol : (Fin.ofNat 160 (20 * e.val + o.val)).val = 20 * e.val + o.val := Nat.mod_eq_of_lt (by omega)
  have hpos : ∀ (g : Fin 4) (j : Fin 64), (Fin.ofNat 256 (64 * g.val + j.val)).val = 64 * g.val + j.val :=
    fun g j => Nat.mod_eq_of_lt (by omega)
  have hrow : ∀ (g : Fin 4) (j : Fin 64), (Fin.ofNat 512 (64 * e0 + (64 * g.val + j.val))).val = 64 * e0 + (64 * g.val + j.val) :=
    fun g j => Nat.mod_eq_of_lt (by omega)
  rw [Sums.blocks (m := 4) (n := 64) rfl]
  simp only [hpos]
  have off : ∀ g : Fin 4, e.val ≠ e0 + g.val → ∀ j : Fin 64,
      Ideal.tanh (affine b (weights (64 * e0) x2 x3) (rows b (weights (64 * e0) x2 x3) x0 19) (ix2 r (Fin.ofNat 256 (64 * g.val + j.val))))
        * dense x6 (ix2 (Fin.ofNat 512 (64 * e0 + (64 * g.val + j.val))) (Fin.ofNat 160 (20 * e.val + o.val))) = 0 := by
    intro g hg j
    have hj := j.isLt
    have ho := o.isLt
    rw [dense_off _ _ _ (by rw [hrow, hcol]; omega), zero_lit, mul_zero]
  split
  · rename_i h
    let g : Fin 4 := ⟨e.val - e0, by omega⟩
    have hge : e = Fin.ofNat 8 (e0 + g.val) := Fin.ext (by show e.val = (e0 + (e.val - e0)) % 8; omega)
    rw [Sums.pick g]
    · refine Finset.sum_congr rfl fun j _ => ?_
      have hj := j.isLt
      have ho := o.isLt
      rw [last_apply H he hb, ← hge, dense_diag _ _ _ (by rw [hrow, hcol]; show (64 * e0 + (64 * (e.val - e0) + j.val)) / 64 = _; omega),
        hrow, hcol, H.fc1,
        show Fin.ofNat 64 ((64 * e0 + (64 * g.val + j.val)) % 64) = j from
          Fin.ext (by show (64 * e0 + (64 * g.val + j.val)) % 64 % 64 = j.val; omega)]
    · intro g' hg' j
      exact off g' (fun h' => hg' (Fin.ext (by show g'.val = e.val - e0; omega))) j
  · rename_i h
    exact Finset.sum_eq_zero fun g _ => Finset.sum_eq_zero fun j _ => off g (by have := g.isLt; omega) j

/-- The first dense layer before its bias. -/
theorem dense_apply (H : Reads p x0 x1 x2 x3 x4 x5 x6 x7 x8 x9) (r : Fin 1024) (e : Fin 8) (o : Fin 20) :
    k0_pay143 (k0_pay32 x4 x5) (k0_pay33 x4 x5) (weights 0 x2 x3) (weights 256 x2 x3)
        (rows (k0_pay32 x4 x5) (weights 0 x2 x3) x0 19) (rows (k0_pay33 x4 x5) (weights 256 x2 x3) x0 19) (dense x6)
        (ix2 r (Fin.ofNat 160 (20 * e.val + o.val)))
      = ∑ h, p.hid 20 e r h * p.fc1 e o h := by
  rw [hidden_dense, half_dense (e0 := 0) H (by omega) (fun k => by rw [bias_a, Nat.mul_zero, Nat.zero_add]) r e o,
    half_dense (e0 := 4) H (by omega) (fun k => bias_b k) r e o]
  by_cases h : e.val < 4
  · rw [if_pos (by omega), if_neg (by omega), add_zero]
  · rw [if_neg (by omega), if_pos (by omega), zero_add]

/-- The expert a column of the second dense layer belongs to, as the body computes it in 32-bit words. -/
def segment (x : ℕ) : BitVec 32 :=
  Scalar.select
    (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt 20#32 0#32))
          (Scalar.extui (Scalar.cmpi CmpIPredicate.slt 20#32 0#32))))
      (IntOp.cmpi CmpIPredicate.ne (IntOp.remsi ArithUnit.vector (BitVec.ofNat 32 x) 20#32) 0#32))
    (IntOp.subi (IntOp.divsi ArithUnit.vector (BitVec.ofNat 32 x) 20#32) 1#32)
    (IntOp.divsi ArithUnit.vector (BitVec.ofNat 32 x) 20#32)

/-- It is the quotient by twenty. -/
theorem segment_eq : ∀ x : Fin 160, segment x.val = BitVec.ofNat 32 (x.val / 20) := by decide +kernel

/-- Comparing it with an expert's number. -/
theorem segment_cmp (x : Fin 160) (e : Fin 8) :
    IntOp.cmpi CmpIPredicate.eq (segment x.val) (BitVec.ofNat 32 e.val) = if x.val / 20 = e.val then 1#1 else 0#1 := by
  rw [segment_eq]
  have : ∀ a e : Fin 8, IntOp.cmpi CmpIPredicate.eq (BitVec.ofNat 32 a.val) (BitVec.ofNat 32 e.val) = if a.val = e.val then 1#1 else 0#1 := by
    decide +kernel
  exact this ⟨x.val / 20, by omega⟩ e

/-- One entry of the second dense layer. -/
theorem out_apply (z v : FVec Ideal S1024x160 .f32) (r : Fin 1024) (e : Fin 8) :
    k0_pay145 z v x8 x9 (ix2 r e)
      = ∑ x : Fin 160, Scalar.select (IntOp.cmpi CmpIPredicate.eq (segment x.val) (BitVec.ofNat 32 e.val))
          (Ideal.tanh (z (ix2 r x) + v (ix2 r x)) * x8 (ix2 0 x)) 0 + x9 (ix2 0 e) := by
  pointwise [k0_pay145]
  rfl

/-- The bias of the first dense layer. -/
theorem bias_dense (r : Fin 1024) (k : Fin 160) : (k0_pay144 x7 : FVec Ideal S1024x160 .f32) (ix2 r k) = x7 (ix2 0 k) := by
  pointwise [k0_pay144]

/-- The experts' outputs. -/
theorem expertsOut_apply (H : Reads p x0 x1 x2 x3 x4 x5 x6 x7 x8 x9) (r : Fin 1024) (e : Fin 8) :
    expertsOut x0 x2 x3 x4 x5 x6 x7 x8 x9 (ix2 r e) = p.out e r := by
  unfold expertsOut
  rw [out_apply, H.b2, Sums.blocks (m := 8) (n := 20) rfl]
  have hcol : ∀ (g : Fin 8) (o : Fin 20), (Fin.ofNat 160 (20 * g.val + o.val)).val = 20 * g.val + o.val :=
    fun g o => Nat.mod_eq_of_lt (by omega)
  rw [Sums.pick e]
  · unfold Spec.Params.out
    refine congrArg (· + p.b2 e) (Finset.sum_congr rfl fun o _ => ?_)
    have ho := o.isLt
    rw [segment_cmp, hcol, if_pos (by omega), dense_apply H, bias_dense, H.b1, H.fc2]
    rfl
  · intro g hg o
    have ho := o.isLt
    have hne : g.val ≠ e.val := fun h => hg (Fin.ext h)
    rw [segment_cmp, hcol, if_neg (by omega)]
    rfl

end Cert.KernelIdeal.Cells

end
-- ==== Proof.Gates.lean ====
/- The top-two gate by first positions and by a stable sort: the two greatest entries of a sorted row give the same
   gate as the row's first greatest entry and the first greatest of the rest. -/
module

public import proofs.«01_k».proof.Proof.Spec
public import Idealize.ShloMosaic.Lib.SortFacts

@[expose] public section

noncomputable section

namespace Cert.Spec

open Idealize.ShloMosaic
open scoped BigOperators

/-- There is one first greatest index. -/
theorem IsTop.unique {l : Fin 8 → EReal} {i j : Fin 8} (hi : IsTop l i) (hj : IsTop l j) : i = j := by
  rcases hi j with h | ⟨h, h'⟩
  · rcases hj i with g | ⟨g, _⟩
    · exact absurd (h.trans g) (lt_irrefl _)
    · exact absurd (g ▸ h) (lt_irrefl _)
  · rcases hj i with g | ⟨_, g'⟩
    · exact absurd (h ▸ g) (lt_irrefl _)
    · exact le_antisymm h' g'

/-- Every row has a first greatest index. -/
theorem exists_isTop (l : Fin 8 → EReal) : ∃ i, IsTop l i := by
  classical
  obtain ⟨m, -, hm⟩ := Finset.exists_max_image (Finset.univ : Finset (Fin 8)) l ⟨0, Finset.mem_univ _⟩
  obtain ⟨i, hi, hmin⟩ := Finset.exists_min_image (Finset.univ.filter fun i => l i = l m) id
    ⟨m, by simp⟩
  rw [Finset.mem_filter] at hi
  refine ⟨i, fun j => ?_⟩
  rcases lt_or_eq_of_le (hm j (Finset.mem_univ _)) with h | h
  · exact Or.inl (by rw [hi.2]; exact h)
  · exact Or.inr ⟨by rw [hi.2]; exact h, hmin j (by simp [h])⟩

/-- `first l` is a largest entry of `l` with no equal one before it. -/
theorem first_isTop (l : Fin 8 → EReal) : IsTop l (first l) := by
  unfold first
  rw [dif_pos (exists_isTop l)]
  exact (exists_isTop l).choose_spec

/-- An entry that is largest with no equal one before it is `first l`. -/
theorem first_eq {l : Fin 8 → EReal} {i : Fin 8} (h : IsTop l i) : first l = i := (first_isTop l).unique h

/-- No entry exceeds a top one. -/
theorem IsTop.le {l : Fin 8 → EReal} {i : Fin 8} (h : IsTop l i) (j : Fin 8) : l j ≤ l i :=
  (h j).elim le_of_lt fun h => h.1.le

/-- The greatest value of a row, as a running maximum from minus infinity. -/
theorem fold_max_eq (l : Fin 8 → EReal) : Finset.univ.fold max ⊥ l = l (first l) := by
  apply le_antisymm
  · rw [Finset.fold_max_le]
    exact ⟨bot_le, fun j _ => (first_isTop l).le j⟩
  · rw [Finset.le_fold_max]
    exact Or.inr ⟨_, Finset.mem_univ _, le_rfl⟩

/-- The first position at which the row equals its maximum, as a running minimum of positions from eight. -/
theorem isTop_of_least {l : Fin 8 → EReal} {i : Fin 8} (h : l i = l (first l)) (hmin : ∀ j, l j = l (first l) → i ≤ j) :
    first l = i := by
  refine first_eq fun j => ?_
  rcases lt_or_eq_of_le ((first_isTop l).le j) with g | g
  · exact Or.inl (h ▸ g)
  · exact Or.inr ⟨by rw [h]; exact g, hmin j g⟩

/-! ## The stable sort of a row, greater entries first -/

/-- The strict order a stable descending sort of a row establishes: greater entries first, equal ones by position. -/
def Precedes (l : Fin 8 → EReal) (a b : Fin 8) : Prop := l b < l a ∨ (l b = l a ∧ a < b)

/-- Coming before, by larger value or by equal value and smaller column, is transitive. -/
theorem Precedes.trans {l : Fin 8 → EReal} {a b c : Fin 8} (h : Precedes l a b) (g : Precedes l b c) : Precedes l a c := by
  rcases h with h | ⟨h, h'⟩ <;> rcases g with g | ⟨g, g'⟩
  · exact Or.inl (g.trans h)
  · exact Or.inl (g ▸ h)
  · exact Or.inl (h ▸ g)
  · exact Or.inr ⟨g.trans h, h'.trans g'⟩

variable {l : Fin 8 → EReal} {R : Fin 8 → Fin 8 → Bool}

/-- Inserting a position below all others keeps the list ordered. -/
theorem insertBefore_precedes (hR : ∀ a b, R a b = true ↔ l b < l a) (a : Fin 8) (L : List (Fin 8))
    (ha : ∀ b ∈ L, a < b) (hL : L.Pairwise (Precedes l)) : (insertBefore R a L).Pairwise (Precedes l) := by
  induction L with
  | nil => exact List.pairwise_singleton _ _
  | cons b L ih =>
    rw [List.pairwise_cons] at hL
    have ih' := ih (fun c hc => ha c (List.mem_cons_of_mem _ hc)) hL.2
    unfold insertBefore
    split
    · rename_i h
      refine List.pairwise_cons.mpr ⟨fun c hc => ?_, ih'⟩
      rcases List.mem_cons.mp ((perm_insertBefore R a L).mem_iff.mp hc) with rfl | hc'
      · exact Or.inl ((hR _ _).mp h)
      · exact hL.1 c hc'
    · rename_i h
      have hab : Precedes l a b := by
        rcases lt_or_eq_of_le (not_lt.mp fun hlt => h ((hR b a).mpr hlt)) with g | g
        · exact Or.inl g
        · exact Or.inr ⟨g, ha b List.mem_cons_self⟩
      refine List.pairwise_cons.mpr ⟨fun c hc => ?_, List.pairwise_cons.mpr hL⟩
      rcases List.mem_cons.mp hc with rfl | hc'
      · exact hab
      · exact hab.trans (hL.1 c hc')

/-- In a stable descending sort of ascending columns each column precedes every later one. -/
theorem stableSort_precedes (hR : ∀ a b, R a b = true ↔ l b < l a) (L : List (Fin 8)) (hL : L.Pairwise (· < ·)) :
    (stableSort R L).Pairwise (Precedes l) := by
  induction L with
  | nil => exact List.Pairwise.nil
  | cons a L ih =>
    rw [List.pairwise_cons] at hL
    unfold stableSort
    exact insertBefore_precedes hR a _ (fun b hb => hL.1 b ((perm_stableSort R L).mem_iff.mp hb)) (ih hL.2)

/-- An earlier place of the sorted row holds an entry that precedes a later place's. -/
theorem sortedFrom_precedes (hR : ∀ a b, R a b = true ↔ l b < l a) {i j : Fin 8} (hij : i < j) :
    Precedes l (sortedFrom R i) (sortedFrom R j) := by
  have hp : ∀ a b : Fin (sortPositions 8 R).length, a < b →
      Precedes l ((sortPositions 8 R).get a) ((sortPositions 8 R).get b) := List.pairwise_iff_get.mp
    (stableSort_precedes hR (List.finRange 8) (List.pairwise_lt_finRange 8))
  unfold sortedFrom
  exact hp _ _ hij

/-- The sorted row's first place is the row's first greatest index. -/
theorem sortedFrom_zero (hR : ∀ a b, R a b = true ↔ l b < l a) : sortedFrom R 0 = first l := by
  refine (first_eq fun j => ?_).symm
  obtain ⟨k, rfl⟩ := sortedFrom_surjective R j
  rcases Nat.eq_zero_or_pos k.val with hk | hk
  · have : k = 0 := Fin.ext hk
    subst this
    exact Or.inr ⟨rfl, le_rfl⟩
  · rcases sortedFrom_precedes hR (i := 0) (j := k) hk with h | ⟨h, h'⟩
    · exact Or.inl h
    · exact Or.inr ⟨h, h'.le⟩

/-- The second column of the descending order is not the first one. -/
theorem sortedFrom_one_ne (hR : ∀ a b, R a b = true ↔ l b < l a) : sortedFrom R 1 ≠ first l := by
  rw [← sortedFrom_zero hR]
  intro h
  exact absurd (sortedFrom_injective R h) (by decide)

/-- The sorted row's second place is the first greatest index of the rest. -/
theorem sortedFrom_one (hR : ∀ a b, R a b = true ↔ l b < l a) (j : Fin 8) (hj : j ≠ first l) :
    l j < l (sortedFrom R 1) ∨ (l j = l (sortedFrom R 1) ∧ sortedFrom R 1 ≤ j) := by
  obtain ⟨k, rfl⟩ := sortedFrom_surjective R j
  have hk0 : k ≠ 0 := fun h => hj (by rw [h, sortedFrom_zero hR])
  by_cases hk : k = 1
  · subst hk; exact Or.inr ⟨rfl, le_rfl⟩
  · have h1 : (1 : Fin 8) < k := by
      have := Fin.val_ne_of_ne hk0
      have := Fin.val_ne_of_ne hk
      simp only [Fin.lt_def] at *
      show 1 < k.val
      omega
    rcases sortedFrom_precedes hR h1 with h | ⟨h, h'⟩
    · exact Or.inl h
    · exact Or.inr ⟨h, h'.le⟩

/-- The greatest value of the masked row is the sorted row's second value. -/
theorem masked_first (hR : ∀ a b, R a b = true ↔ l b < l a) :
    masked l (first (masked l)) = l (sortedFrom R 1) := by
  apply le_antisymm
  · unfold masked
    split
    · exact bot_le
    · rename_i h
      exact (sortedFrom_one hR _ h).elim le_of_lt fun h => h.1.le
  · have h := (first_isTop (masked l)).le (sortedFrom R 1)
    rwa [show masked l (sortedFrom R 1) = l (sortedFrom R 1) from if_neg (sortedFrom_one_ne hR)] at h

/-- Unless the second value is minus infinity, the masked row's first greatest index is the sorted row's second place. -/
theorem first_masked (hR : ∀ a b, R a b = true ↔ l b < l a) (hne : l (sortedFrom R 1) ≠ ⊥) :
    first (masked l) = sortedFrom R 1 := by
  have hs : masked l (sortedFrom R 1) = l (sortedFrom R 1) := if_neg (sortedFrom_one_ne hR)
  refine first_eq fun j => ?_
  rw [hs]
  by_cases hj : j = first l
  · exact Or.inl (by rw [masked, if_pos hj]; exact bot_lt_iff_ne_bot.mpr hne)
  · rw [show masked l j = l j from if_neg hj]
    exact sortedFrom_one hR j hj

/-- The gate from the sorted row. With `r` the greatest value, finite, and `s` the second value: the second place
    gets `exp (s - r)` over the sum of both exponentials, the first place `exp (r - r)` over it, every other zero. -/
theorem gate_eq_sorted (hR : ∀ a b, R a b = true ↔ l b < l a) (hbot : l (first l) ≠ ⊥) (htop : l (first l) ≠ ⊤)
    (e : Fin 8) :
    gate l e =
      if e = sortedFrom R 1 then
        Ideal.div (Ideal.exp (l (sortedFrom R 1) - l (sortedFrom R 0)))
          (Ideal.exp (l (sortedFrom R 0) - l (sortedFrom R 0)) + Ideal.exp (l (sortedFrom R 1) - l (sortedFrom R 0)))
      else if e = sortedFrom R 0 then
        Ideal.div (Ideal.exp (l (sortedFrom R 0) - l (sortedFrom R 0)))
          (Ideal.exp (l (sortedFrom R 0) - l (sortedFrom R 0)) + Ideal.exp (l (sortedFrom R 1) - l (sortedFrom R 0)))
      else 0 := by
  have h0 := sortedFrom_zero hR
  have h10 := sortedFrom_one_ne hR
  have hself : Ideal.exp (l (first l) - l (first l)) = 1 := by
    rw [EReal.sub_self htop hbot]
    show ((Real.exp 0 : ℝ) : EReal) = 1
    rw [Real.exp_zero]; rfl
  rw [h0, hself]
  have he2 : expSnd l = Ideal.exp (l (sortedFrom R 1) - l (first l)) := by rw [expSnd, masked_first hR]
  unfold gate
  rw [he2]
  by_cases hne : l (sortedFrom R 1) = ⊥
  · have hz : Ideal.exp (l (sortedFrom R 1) - l (first l)) = 0 := by
      rw [hne, EReal.bot_sub]; rfl
    have hd : Ideal.div 0 (1 + 0) = 0 := by
      rw [Ideal.div, if_neg (by simp), zero_mul]
    rw [hz, hd]
    simp only [ite_self, add_zero]
    by_cases h1 : e = sortedFrom R 1
    · rw [if_pos h1, if_neg (h1 ▸ h10)]
    · rw [if_neg h1]
  · rw [first_masked hR hne]
    by_cases h1 : e = sortedFrom R 1
    · rw [if_pos h1, if_pos h1, if_neg (h1 ▸ h10), zero_add]
    · rw [if_neg h1, if_neg h1, add_zero]

end Cert.Spec

end
-- ==== Proof.Lits.lean ====
/- The float literals the two programs share, as extended reals. -/
module

public import Idealize.ShloMosaic.PureOps.Ideal
public import Mathlib.Tactic.NormNum

@[expose] public section

namespace Cert.Lits

open Idealize.ShloMosaic

/-- The literal minus infinity. -/
theorem neg_inf : Ideal.ofBits FTy.f32 0xFF800000#32 = (⊥ : EReal) := by
  simp [Ideal.ofBits, Ideal.ieee, -EReal.coe_mul]

/-- The literal infinity. -/
theorem inf : Ideal.ofBits FTy.f32 0x7F800000#32 = (⊤ : EReal) := by
  simp [Ideal.ofBits, Ideal.ieee, -EReal.coe_mul]

/-- The literal eight. -/
theorem eight : Ideal.ofBits FTy.f32 0x41000000#32 = (8 : EReal) := by
  have : Ideal.ofBits FTy.f32 0x41000000#32 = ((8 : ℝ) : EReal) := by
    simp [Ideal.ofBits, Ideal.ieee, -EReal.coe_mul]
    norm_num
  rw [this]; rfl

/-- The literal seven. -/
theorem seven : Ideal.ofBits FTy.f32 0x40E00000#32 = (7 : EReal) := by
  have : Ideal.ofBits FTy.f32 0x40E00000#32 = ((7 : ℝ) : EReal) := by
    simp [Ideal.ofBits, Ideal.ieee, -EReal.coe_mul]
    norm_num
  rw [this]; rfl

end Cert.Lits
-- ==== Proof.KGates.lean ====
/- The body's gate over the extended reals: the two greatest logits of a row found by a maximum and a first position,
   the first one masked out before the second is sought. -/
module

public import proofs.«01_k».proof.Proof.KRec
public import proofs.«01_k».proof.Proof.Gates
public import proofs.«01_k».proof.Proof.Lits

@[expose] public section

set_option maxRecDepth 16384

noncomputable section

namespace Cert.KernelIdeal.Cells

open Cert.KernelIdeal Cert.KernelIdeal.Gen
open Idealize.ShloMosaic Idealize.ShloMosaic.TcCoe
open scoped BigOperators

variable {p : Spec.Params} {x0 : Vec Ideal S1024x1280 .f32} {x1 : Vec Ideal S64x8 .f32} {x2 x3 : Vec Ideal S512x64 .f32}
  {x4 x5 : Vec Ideal S1x512 .f32} {x6 : Vec Ideal S160x64 .f32} {x7 x8 : Vec Ideal S1x160 .f32} {x9 : Vec Ideal S1x8 .f32}

/-- The first position of a row's maximum, in 32-bit words: the least position where the row meets its maximum. -/
def pick (l : Fin 8 → EReal) : BitVec 32 :=
  Finset.univ.fold IntOp.minsi 2147483647#32
    (fun x : Fin 8 => if l x = Finset.univ.fold max (Ideal.ofBits FTy.f32 0xFF800000#32) l then BitVec.ofNat 32 x.val else 8#32)

/-- The row with that position's entry replaced by minus infinity. -/
def drop (l : Fin 8 → EReal) : Fin 8 → EReal := fun x =>
  Scalar.select (IntOp.cmpi CmpIPredicate.eq (BitVec.ofNat 32 x.val) (pick l)) (Ideal.ofBits FTy.f32 0xFF800000#32) (l x)

/-- The difference of the two maxima, exponentiated. -/
def second (l : Fin 8 → EReal) : EReal :=
  Ideal.exp (Finset.univ.fold max (Ideal.ofBits FTy.f32 0xFF800000#32) (drop l)
    - Finset.univ.fold max (Ideal.ofBits FTy.f32 0xFF800000#32) l)

/-- One entry of the gate. -/
theorem gate_word (v : FVec Ideal S1024x64 .f32) (w : Vec Ideal S64x8 .f32) (r : Fin 1024) (k : Fin 8) (l : Fin 8 → EReal)
    (hl : l = fun e => ∑ i, v (ix2 r i) * w (ix2 i e)) :
    k0_pay147 v w (ix2 r k)
      = Scalar.select (IntOp.cmpi CmpIPredicate.eq (BitVec.ofNat 32 k.val) (pick l)) (Ideal.div 1 (1 + second l)) 0
        + Scalar.select (IntOp.cmpi CmpIPredicate.eq (BitVec.ofNat 32 k.val) (pick (drop l))) (Ideal.div (second l) (1 + second l)) 0 := by
  subst hl
  pointwise [k0_pay147]
  rfl

/-- The signed minimum of two words, read as integers, is the minimum. -/
theorem toInt_minsi (a b : BitVec 32) : (IntOp.minsi a b).toInt = min a.toInt b.toInt := by
  unfold IntOp.minsi
  simp only [BitVec.slt, decide_eq_true_eq]
  split <;> omega

/-- That position is the first index of the row's greatest value. -/
theorem pick_eq (l : Fin 8 → EReal) : pick l = BitVec.ofNat 32 (Spec.first l).val := by
  have small : ∀ x : Fin 8, (BitVec.ofNat 32 x.val).toInt = (x.val : ℤ) := by decide +kernel
  apply BitVec.eq_of_toInt_eq
  rw [small]
  unfold pick
  rw [Lits.neg_inf, Spec.fold_max_eq, ← Finset.fold_hom toInt_minsi]
  apply le_antisymm
  · rw [Finset.fold_min_le]
    refine Or.inr ⟨Spec.first l, Finset.mem_univ _, ?_⟩
    rw [if_pos rfl, small]
  · rw [Finset.le_fold_min]
    have h8 := (Spec.first l).isLt
    refine ⟨?_, fun x _ => ?_⟩
    · show ((Spec.first l).val : ℤ) ≤ 2147483647
      omega
    · split
      · rename_i h
        rw [small]
        rcases Spec.first_isTop l x with g | ⟨_, g⟩
        · exact absurd h (ne_of_lt g)
        · exact_mod_cast g
      · show ((Spec.first l).val : ℤ) ≤ 8
        omega

/-- Comparing a position with an index's word picks that index. -/
theorem select_at {α : Type} (k i : Fin 8) (a b : α) :
    Scalar.select (IntOp.cmpi CmpIPredicate.eq (BitVec.ofNat 32 k.val) (BitVec.ofNat 32 i.val)) a b = if k = i then a else b := by
  have : ∀ k i : Fin 8, IntOp.cmpi CmpIPredicate.eq (BitVec.ofNat 32 k.val) (BitVec.ofNat 32 i.val) = if k = i then 1#1 else 0#1 := by
    decide +kernel
  rw [this]
  split <;> rfl

/-- The kernel's masked logits are those of `Spec.masked`. -/
theorem drop_eq (l : Fin 8 → EReal) : drop l = Spec.masked l := by
  funext x
  unfold drop
  rw [pick_eq, select_at, Lits.neg_inf]
  rfl

/-- The exponential of the second logit, as the kernel forms it, is `Spec.expSnd`. -/
theorem second_eq (l : Fin 8 → EReal) : second l = Spec.expSnd l := by
  unfold second
  rw [drop_eq, Lits.neg_inf, Spec.fold_max_eq, Spec.fold_max_eq]
  rfl

/-- The body's gate is the specification's. -/
theorem gates_apply (H : Reads p x0 x1 x2 x3 x4 x5 x6 x7 x8 x9) (r : Fin 1024) (e : Fin 8) :
    k0_pay147 (block 0 1216 1024 64 x0) x1 (ix2 r e) = p.gates r e := by
  rw [gate_word _ _ r e (p.logit r) (funext fun e => Finset.sum_congr rfl fun i _ => by
    rw [show (1216 : ℕ) = 64 * 19 from rfl, step_block H 19 (by omega), H.wg]; rfl)]
  rw [drop_eq, pick_eq, pick_eq, select_at, select_at, second_eq]
  rfl

end Cert.KernelIdeal.Cells

end
-- ==== Proof.KResults.lean ====
/- The body's two output blocks over the extended reals: the layer's output and its balance loss. -/
module

public import proofs.«01_k».proof.Proof.KExperts
public import proofs.«01_k».proof.Proof.KGates

@[expose] public section

set_option maxRecDepth 16384

noncomputable section

namespace Cert.KernelIdeal.Cells

open Cert.KernelIdeal Cert.KernelIdeal.Gen
open Idealize.ShloMosaic Idealize.ShloMosaic.TcCoe
open scoped BigOperators

variable {p : Spec.Params} {x0 : Vec Ideal S1024x1280 .f32} {x1 : Vec Ideal S64x8 .f32} {x2 x3 : Vec Ideal S512x64 .f32}
  {x4 x5 : Vec Ideal S1x512 .f32} {x6 : Vec Ideal S160x64 .f32} {x7 x8 : Vec Ideal S1x160 .f32} {x9 : Vec Ideal S1x8 .f32}

/-- One entry of the output: a row's gates against its experts' outputs. -/
theorem weighted (out : FVec Ideal S1024x8 .f32) (v : FVec Ideal S1024x64 .f32) (w : Vec Ideal S64x8 .f32) (r : Fin 1024) (k : Fin 1) :
    k0_pay148 out v w (ix2 r k) = ∑ e : Fin 8, k0_pay147 v w (ix2 r e) * out (ix2 r e) := by
  pointwise [k0_pay148]

/-- The output block is the layer's output. -/
theorem y_apply (H : Reads p x0 x1 x2 x3 x4 x5 x6 x7 x8 x9) (r : Fin 1024) (k : Fin 1) :
    k0_pay148 (expertsOut x0 x2 x3 x4 x5 x6 x7 x8 x9) (block 0 1216 1024 64 x0) x1 (ix2 r k) = p.y r := by
  rw [weighted]
  exact Finset.sum_congr rfl fun e _ => by rw [gates_apply H, expertsOut_apply H]

/-- The loss from any gates: the squared coefficients of variation of their column sums and of their positive counts. -/
theorem balance (g : FVec Ideal S1024x8 .f32) :
    k0_pay1 (k0_pay149 g) k0_pay150 (ix2 0 0)
      = (Spec.cvSq (Ideal.ofBits .f32 0x2EDBE6FF#32) (fun e => ∑ b, g (ix2 b e))
          + Spec.cvSq (Ideal.ofBits .f32 0x2EDBE6FF#32) (fun e => ∑ b : Fin 1024, if 0 < g (ix2 b e) then (1 : EReal) else 0))
        * Ideal.ofBits .f32 0x3C23D70A#32 := by
  pointwise [k0_pay149, k0_pay1, k0_pay150]
  rw [Lits.eight, Lits.seven]
  rfl

/-- The loss block is the layer's balance loss. -/
theorem loss_apply (H : Reads p x0 x1 x2 x3 x4 x5 x6 x7 x8 x9) :
    k0_pay1 (k0_pay149 (k0_pay147 (block 0 1216 1024 64 x0) x1)) k0_pay150 (ix2 0 0)
      = p.loss (Ideal.ofBits .f32 0x2EDBE6FF#32) (Ideal.ofBits .f32 0x3C23D70A#32) := by
  rw [balance]
  simp only [gates_apply H]
  rfl

end Cert.KernelIdeal.Cells

end
-- ==== Proof.Layer.lean ====
/- The layer's arrays as the two programs hold them: the problem's ten arguments read as the specification's. -/
module

public import proofs.«01_k».proof.Proof.Spec
public import Idealize.ShloMosaic.Lib.Pointwise

@[expose] public section

noncomputable section

namespace Cert.Spec

open Idealize.ShloMosaic

/-- The specification's arrays out of the ten arguments. -/
def ofArgs (a0 : (⟨3, ![1024, 20, 64]⟩ : Shape).Idx → EReal) (a1 : (⟨2, ![64, 8]⟩ : Shape).Idx → EReal)
    (a2 a3 : (⟨3, ![8, 64, 64]⟩ : Shape).Idx → EReal) (a4 a5 : (⟨2, ![8, 64]⟩ : Shape).Idx → EReal)
    (a6 : (⟨3, ![8, 20, 64]⟩ : Shape).Idx → EReal) (a7 : (⟨2, ![8, 20]⟩ : Shape).Idx → EReal)
    (a8 : (⟨3, ![8, 1, 20]⟩ : Shape).Idx → EReal) (a9 : (⟨2, ![8, 1]⟩ : Shape).Idx → EReal) : Params where
  x b t i := a0 (ix3 b t i)
  wg i e := a1 (ix2 i e)
  wih e j i := a2 (ix3 e j i)
  whh e j g := a3 (ix3 e j g)
  bih e j := a4 (ix2 e j)
  bhh e j := a5 (ix2 e j)
  fc1 e o h := a6 (ix3 e o h)
  b1 e o := a7 (ix2 e o)
  fc2 e o := a8 (ix3 e 0 o)
  b2 e := a9 (ix2 e 0)

end Cert.Spec

end
-- ==== Proof.KArray.lean ====
/- The kernel's two result arrays after the run: the layer's output and its balance loss. -/
module

public import proofs.«01_k».proof.Proof.KResults
public import proofs.«01_k».proof.Proof.Layer
public import Idealize.ShloMosaic.Lib.StableHlo.RunClose

@[expose] public section

set_option maxRecDepth 16384

noncomputable section

namespace Cert.KernelIdeal.Cells

open Cert.KernelIdeal Cert.KernelIdeal.Gen Cert.KernelIdeal.Value
open Idealize.ShloMosaic Idealize.ShloMosaic.TcCoe Idealize.SL.Sem

/-- A window of a kernel with no grid reads its whole array. -/
theorem whole_window {M N : ℕ} {sig : RefSig} {e : EltTy} {cs : CoreSpace} {Val : EltTy → Type}
    (arr : Memref sig .tc .hbm (⟨2, ![M, N]⟩ : Shape) e) (isOut sync : Bool)
    (stage : Memref sig .tc (.core cs) (⟨2, ![M, N]⟩ : Shape) e) (sem : DmaSem sig) (harr : arr.IsWhole) (hstage : stage.IsWhole)
    (t : Fin Pipeline.Grid.none.N) (f : arr.view.ty.Contents Val) :
    ((Pipeline.Window.whole arr isOut sync stage sem harr hstage).blk t).view.read Val f = arr.view.read Val f := by
  funext j
  refine congrArg (arr.view.read Val f) (funext fun d => Fin.ext ?_)
  show 0 * (![M, N] : Fin 2 → ℕ) d + 1 * (j d).val = (j d).val
  omega

variable (m : (ℓ : Loc nD τ sig) → Buf (Elt Ideal) ℓ) (c : Dev nD)

/-- The specification's arrays, as device `c` is launched with them. -/
def args : Spec.Params :=
  Spec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! What the body's input windows hold: the arguments, laid out in two dimensions by the reshapes before the region. -/

variable (t : Fin cfg0.N)

/-- The kernel's operand 0: the sequences, one row of 20 · 64 numbers each. -/
theorem in0 : iblk m c 0 t = shapeCast S1024x1280 (m ((c : Thread nD τ).loc main_arg0)) shapeCasts_S1024x20x64_S1024x1280 :=
  (whole_window (Memref.whole main_call0_v0) false false _ _ (Memref.isWhole_whole _) (hstage0_0 0) t (V m c main_call0_v0)).trans (by
    show StableHlo.after hostOps0 (fun b => m (c, b)) main_call0_v0 = _
    after_results_entrywise [])

/-- The kernel's operand 1: the gate matrix. -/
theorem in1 : iblk m c 1 t = m ((c : Thread nD τ).loc main_arg1) :=
  (whole_window (Memref.whole main_arg1) false false _ _ (Memref.isWhole_whole _) (hstage0_1 0) t (V m c main_arg1)).trans
    (V_main_arg1 m c)

/-- The kernel's operand 2: the input weights, expert rows stacked. -/
theorem in2 : iblk m c 2 t = shapeCast S512x64 (m ((c : Thread nD τ).loc main_arg2)) shapeCasts_S8x64x64_S512x64 :=
  (whole_window (Memref.whole main_call0_v1) false false _ _ (Memref.isWhole_whole _) (hstage0_2 0) t (V m c main_call0_v1)).trans (by
    show StableHlo.after hostOps0 (fun b => m (c, b)) main_call0_v1 = _
    after_results_entrywise [])

/-- The kernel's operand 3: the recurrent weights, expert rows stacked. -/
theorem in3 : iblk m c 3 t = shapeCast S512x64 (m ((c : Thread nD τ).loc main_arg3)) shapeCasts_S8x64x64_S512x64 :=
  (whole_window (Memref.whole main_call0_v2) false false _ _ (Memref.isWhole_whole _) (hstage0_3 0) t (V m c main_call0_v2)).trans (by
    show StableHlo.after hostOps0 (fun b => m (c, b)) main_call0_v2 = _
    after_results_entrywise [])

/-- The kernel's operand 4: the input biases in one row. -/
theorem in4 : iblk m c 4 t = shapeCast S1x512 (m ((c : Thread nD τ).loc main_arg4)) shapeCasts_S8x64_S1x512 :=
  (whole_window (Memref.whole main_call0_v3) false false _ _ (Memref.isWhole_whole _) (hstage0_4 0) t (V m c main_call0_v3)).trans (by
    show StableHlo.after hostOps0 (fun b => m (c, b)) main_call0_v3 = _
    after_results_entrywise [])

/-- The kernel's operand 5: the recurrent biases in one row. -/
theorem in5 : iblk m c 5 t = shapeCast S1x512 (m ((c : Thread nD τ).loc main_arg5)) shapeCasts_S8x64_S1x512 :=
  (whole_window (Memref.whole main_call0_v4) false false _ _ (Memref.isWhole_whole _) (hstage0_5 0) t (V m c main_call0_v4)).trans (by
    show StableHlo.after hostOps0 (fun b => m (c, b)) main_call0_v4 = _
    after_results_entrywise [])

/-- The kernel's operand 6: the first layer's weights, expert rows stacked. -/
theorem in6 : iblk m c 6 t = shapeCast S160x64 (m ((c : Thread nD τ).loc main_arg6)) shapeCasts_S8x20x64_S160x64 :=
  (whole_window (Memref.whole main_call0_v5) false false _ _ (Memref.isWhole_whole _) (hstage0_6 0) t (V m c main_call0_v5)).trans (by
    show StableHlo.after hostOps0 (fun b => m (c, b)) main_call0_v5 = _
    after_results_entrywise [])

/-- The kernel's operand 7: the first layer's biases in one row. -/
theorem in7 : iblk m c 7 t = shapeCast S1x160 (m ((c : Thread nD τ).loc main_arg7)) shapeCasts_S8x20_S1x160 :=
  (whole_window (Memref.whole main_call0_v6) false false _ _ (Memref.isWhole_whole _) (hstage0_7 0) t (V m c main_call0_v6)).trans (by
    show StableHlo.after hostOps0 (fun b => m (c, b)) main_call0_v6 = _
    after_results_entrywise [])

/-- The kernel's operand 8: the second layer's weights in one row. -/
theorem in8 : iblk m c 8 t = shapeCast S1x160 (m ((c : Thread nD τ).loc main_arg8)) shapeCasts_S8x1x20_S1x160 :=
  (whole_window (Memref.whole main_call0_v7) false false _ _ (Memref.isWhole_whole _) (hstage0_8 0) t (V m c main_call0_v7)).trans (by
    show StableHlo.after hostOps0 (fun b => m (c, b)) main_call0_v7 = _
    after_results_entrywise [])

/-- The kernel's operand 9: the second layer's biases in one row. -/
theorem in9 : iblk m c 9 t = shapeCast S1x8 (m ((c : Thread nD τ).loc main_arg9)) shapeCasts_S8x1_S1x8 :=
  (whole_window (Memref.whole main_call0_v8) false false _ _ (Memref.isWhole_whole _) (hstage0_9 0) t (V m c main_call0_v8)).trans (by
    show StableHlo.after hostOps0 (fun b => m (c, b)) main_call0_v8 = _
    after_results_entrywise [])

/-! The reshapes read at an index. -/

/-- Entries of the reshaped array of the sequences: time `t`, feature `i` lies in column `64 t + i`. -/
theorem flat_x (x : S1024x20x64.Idx → EReal) (b : Fin 1024) (t : Fin 20) (i : Fin 64) :
    shapeCast S1024x1280 x shapeCasts_S1024x20x64_S1024x1280 (ix2 b (Fin.ofNat 1280 (64 * t.val + i.val))) = x (ix3 b t i) := by
  have h : (Fin.ofNat 1280 (64 * t.val + i.val)).val = 64 * t.val + i.val := Nat.mod_eq_of_lt (by omega)
  pointwise
  exact congrArg₂ (fun u v => x (ix3 b u v)) (Fin.ext (by simp only [h]; omega)) (Fin.ext (by simp only [h]; omega))

/-- Entries of the reshaped array of a stack of 64 × 64 matrices: row `j` of expert `e` is row `64 e + j`. -/
theorem flat_w (x : S8x64x64.Idx → EReal) (e : Fin 8) (j i : Fin 64) :
    shapeCast S512x64 x shapeCasts_S8x64x64_S512x64 (ix2 (Fin.ofNat 512 (64 * e.val + j.val)) i) = x (ix3 e j i) := by
  have h : (Fin.ofNat 512 (64 * e.val + j.val)).val = 64 * e.val + j.val := Nat.mod_eq_of_lt (by omega)
  pointwise
  exact congrArg₂ (fun u v => x (ix3 u v i)) (Fin.ext (by simp only [h]; omega)) (Fin.ext (by simp only [h]; omega))

/-- Entries of the reshaped array of the biases: unit `j` of expert `e` is column `64 e + j`. -/
theorem flat_bias (x : S8x64.Idx → EReal) (e : Fin 8) (j : Fin 64) :
    shapeCast S1x512 x shapeCasts_S8x64_S1x512 (ix2 0 (Fin.ofNat 512 (64 * e.val + j.val))) = x (ix2 e j) := by
  have h : (Fin.ofNat 512 (64 * e.val + j.val)).val = 64 * e.val + j.val := Nat.mod_eq_of_lt (by omega)
  pointwise
  exact congrArg₂ (fun u v => x (ix2 u v)) (Fin.ext (by simp only [h]; omega)) (Fin.ext (by simp only [h]; omega))

/-- Entries of the reshaped array of the first layer's weights: unit `o` of expert `e` is row `20 e + o`. -/
theorem flat_fc1 (x : S8x20x64.Idx → EReal) (e : Fin 8) (o : Fin 20) (i : Fin 64) :
    shapeCast S160x64 x shapeCasts_S8x20x64_S160x64 (ix2 (Fin.ofNat 160 (20 * e.val + o.val)) i) = x (ix3 e o i) := by
  have h : (Fin.ofNat 160 (20 * e.val + o.val)).val = 20 * e.val + o.val := Nat.mod_eq_of_lt (by omega)
  pointwise
  exact congrArg₂ (fun u v => x (ix3 u v i)) (Fin.ext (by simp only [h]; omega)) (Fin.ext (by simp only [h]; omega))

/-- Entries of the reshaped array of the first layer's biases: unit `o` of expert `e` is column `20 e + o`. -/
theorem flat_b1 (x : S8x20.Idx → EReal) (e : Fin 8) (o : Fin 20) :
    shapeCast S1x160 x shapeCasts_S8x20_S1x160 (ix2 0 (Fin.ofNat 160 (20 * e.val + o.val))) = x (ix2 e o) := by
  have h : (Fin.ofNat 160 (20 * e.val + o.val)).val = 20 * e.val + o.val := Nat.mod_eq_of_lt (by omega)
  pointwise
  exact congrArg₂ (fun u v => x (ix2 u v)) (Fin.ext (by simp only [h]; omega)) (Fin.ext (by simp only [h]; omega))

/-- Entries of the reshaped array of the second layer's weights: unit `o` of expert `e` is column `20 e + o`. -/
theorem flat_fc2 (x : S8x1x20.Idx → EReal) (e : Fin 8) (o : Fin 20) :
    shapeCast S1x160 x shapeCasts_S8x1x20_S1x160 (ix2 0 (Fin.ofNat 160 (20 * e.val + o.val))) = x (ix3 e 0 o) := by
  have h : (Fin.ofNat 160 (20 * e.val + o.val)).val = 20 * e.val + o.val := Nat.mod_eq_of_lt (by omega)
  pointwise
  exact congrArg₂ (fun u v => x (ix3 u 0 v)) (Fin.ext (by simp only [h]; omega)) (Fin.ext (by simp only [h]; omega))

/-- Entries of the reshaped array of the second layer's biases: expert `e` is column `e`. -/
theorem flat_b2 (x : S8x1.Idx → EReal) (e : Fin 8) :
    shapeCast S1x8 x shapeCasts_S8x1_S1x8 (ix2 0 e) = x (ix2 e 0) := by
  pointwise

/-- So the windows hold the layer's arrays. -/
theorem reads : Reads (args m c) (iblk m c 0 t) (iblk m c 1 t) (iblk m c 2 t) (iblk m c 3 t) (iblk m c 4 t) (iblk m c 5 t)
    (iblk m c 6 t) (iblk m c 7 t) (iblk m c 8 t) (iblk m c 9 t) := by
  rw [in0, in1, in2, in3, in4, in5, in6, in7, in8, in9]
  exact ⟨flat_x _, fun i e => rfl, flat_w _, flat_w _, flat_bias _, flat_bias _, flat_fc1 _, flat_b1 _, flat_fc2 _, flat_b2 _⟩

/-- What the run leaves in the first result, -/
theorem result_y : (dats m 0 c).arrAt 10 cfg0.N = fun i => (args m c).y (i 0) := by
  have t : Fin cfg0.N := ⟨0, by decide +kernel⟩
  have hf : (cfg0.win 10).flush t = true := by revert t; decide +kernel
  refine (whole_window (Memref.whole main_v0_0) true false _ _ (Memref.isWhole_whole _) (hstage0_10 0) t _).symm.trans
    ((blocks10 m c t hf).trans ((flushed10_A m c t).trans ?_))
  funext i
  obtain ⟨r, k, rfl⟩ : ∃ (r : Fin 1024) (k : Fin 1), i = ix2 r k := ⟨i 0, i 1, (ix2_eta i).symm⟩
  refine (congrFun (y_block c ..) (ix2 r k)).trans ?_
  exact y_apply (reads m c t) r k

/-- and in the second. -/
theorem result_loss :
    (dats m 0 c).arrAt 11 cfg0.N = fun _ => (args m c).loss (Ideal.ofBits .f32 0x2EDBE6FF#32) (Ideal.ofBits .f32 0x3C23D70A#32) := by
  have t : Fin cfg0.N := ⟨0, by decide +kernel⟩
  have hf : (cfg0.win 11).flush t = true := by revert t; decide +kernel
  refine (whole_window (Memref.whole main_v0_1) true false _ _ (Memref.isWhole_whole _) (hstage0_11 0) t _).symm.trans
    ((blocks11 m c t hf).trans ((flushed11_A m c t).trans ?_))
  funext i
  obtain ⟨r, k, rfl⟩ : ∃ (r : Fin 1) (k : Fin 1), i = ix2 r k := ⟨i 0, i 1, (ix2_eta i).symm⟩
  obtain rfl : r = 0 := Subsingleton.elim _ _
  obtain rfl : k = 0 := Subsingleton.elim _ _
  refine (congrFun (loss_block c ..) (ix2 0 0)).trans ?_
  exact loss_apply (reads m c t)

end Cert.KernelIdeal.Cells

end
-- ==== Proof.RefStep.lean ====
/- One trip of the reference's loop as arithmetic: the trip's recurrent step, entry by entry, and by induction the hidden
   states after every number of trips. -/
module

public import proofs.«01_k».proof.Proof.RefTrip
public import proofs.«01_k».proof.Proof.Layer
public import Idealize.ShloMosaic.Lib.Pointwise
public import Idealize.ShloMosaic.Lib.StableHlo.RunClose
public import Idealize.ShloMosaic.Lib.DynamicIndex

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem
open Cert

variable (m : (ℓ : Loc nD τ sig) → Buf (Elt Ideal) ℓ)

/-- The recurrent step of a trip: the new hidden states from one time step's input, the weights, the biases and the old
    hidden states. -/
abbrev cell (xt : FVec Ideal S1024x64 .f32) (wih whh : FVec Ideal S8x64x64 .f32) (bih bhh : FVec Ideal S8x64 .f32)
    (h : FVec Ideal S8x1024x64 .f32) : FVec Ideal S8x1024x64 .f32 :=
  Host.tanh (addf (addf (addf
    (transpose S8x1024x64 [0, 2, 1] (Host.dotGeneral dot_S8x64x64_S1024x64_S8x64x1024_2_1_01_0_n_n none wih xt)
      transposes_S8x64x1024_S8x1024x64_0_2_1)
    (Host.dotGeneral dot_S8x1024x64_S8x64x64_S8x1024x64_2_2_1_1_0_0 none h whh))
    (broadcastInDim S8x1024x64 ![0, 1, 2] bcast_S8x1x64_S8x1024x64_0_1_2
      (broadcastInDim S8x1x64 ![0, 2] bcast_S8x64_S8x1x64_0_2 bih)))
    (broadcastInDim S8x1024x64 ![0, 1, 2] bcast_S8x1x64_S8x1024x64_0_1_2
      (broadcastInDim S8x1x64 ![0, 2] bcast_S8x64_S8x1x64_0_2 bhh)))

/-- The recurrent step at one expert, row and unit. -/
theorem cell_apply (xt : FVec Ideal S1024x64 .f32) (wih whh : FVec Ideal S8x64x64 .f32) (bih bhh : FVec Ideal S8x64 .f32)
    (h : FVec Ideal S8x1024x64 .f32) (e : Fin 8) (b : Fin 1024) (j : Fin 64) :
    cell xt wih whh bih bhh h (ix3 e b j) =
      Ideal.tanh ((∑ i : Fin 64, wih (ix3 e j i) * xt (ix2 b i)) + (∑ g : Fin 64, h (ix3 e b g) * whh (ix3 e j g))
        + bih (ix2 e j) + bhh (ix2 e j)) := by
  pointwise [cell]

/-- The input of one time step: a slice of the transposed input at the counter. -/
abbrev slice (xs : FVec Ideal S20x1024x64 .f32) (i : IVec S_ 32) : FVec Ideal S1024x64 .f32 :=
  shapeCast S1024x64 (Host.dynamicSlice S1x1024x64 xs
    (fun k => ((![i, constantI S_ 32 0#32, constantI S_ 32 0#32] k) (Shape.Idx.first h_S_)).toInt)
    sliceFits_S20x1024x64_S1x1024x64) shapeCasts_S1x1024x64_S1024x64

/-- A trip's slice, in terms of the contents before the trip. -/
theorem sliced (V : Valuation τ sig (Elt Ideal)) :
    after while0Ops0 V (Proc.devRef .tc main_while0b_v68) =
      slice (V (Proc.devRef .tc main_v2_0)) (V (Proc.devRef .tc main_v2_5)) := by
  after_results_entrywise []

/-- The rest of a trip is the recurrent step. -/
theorem stepped (V : Valuation τ sig (Elt Ideal)) :
    after while0Ops0_1 V (Proc.devRef .tc main_v2_6) =
      cell (V (Proc.devRef .tc main_while0b_v68)) (V (Proc.devRef .tc main_v2_1)) (V (Proc.devRef .tc main_v2_2))
        (V (Proc.devRef .tc main_v2_3)) (V (Proc.devRef .tc main_v2_4)) (V (Proc.devRef .tc main_v2_6)) := by
  after_results_entrywise []

/-- The counter before trip `k`, read signed, is `k`. -/
theorem counter_toInt : ∀ k : Fin 20, (Scf.iv 0#32 1#32 k.val).toInt = (k.val : Int) := by decide

/-- The slice of trip `k` is time step `k`. -/
theorem slice_apply (xs : FVec Ideal S20x1024x64 .f32) (k : Fin 20) (b : Fin 1024) (i : Fin 64) :
    slice xs (fun _ => Scf.iv 0#32 1#32 k.val) (ix2 b i) = xs (ix3 k b i) := by
  have hfit : S20x1024x64.Slices ![k.val, 0, 0] S1x1024x64 := by
    refine ⟨rfl, fun a => ?_⟩
    have := k.isLt
    match a with
    | 0 => show k.val + 1 ≤ 20; omega
    | 1 => show 0 + 1024 ≤ 1024; omega
    | 2 => show 0 + 64 ≤ 64; omega
  have h := Host.dynamicSlice_eq_extractStridedSlice S1x1024x64 xs
    (fun d => ((![(fun _ => Scf.iv 0#32 1#32 k.val : IVec S_ 32), constantI S_ 32 0#32, constantI S_ 32 0#32] d)
      (Shape.Idx.first h_S_)).toInt) ![k.val, 0, 0] sliceFits_S20x1024x64_S1x1024x64 hfit (fun a => by
        match a with
        | 0 => exact counter_toInt k
        | 1 => rfl
        | 2 => rfl)
  show shapeCast S1024x64 (Host.dynamicSlice S1x1024x64 xs _ _) _ (ix2 b i) = _
  rw [h]
  pointwise []

/-- What the loop carries unchanged: the transposed input, the two weights and the two biases. -/
abbrev fixedRefs : List (Ref sig .tc) := [main_v2_0, main_v2_1, main_v2_2, main_v2_3, main_v2_4]

/-- Before every trip a buffer the loop carries unchanged is as at the loop's entry. -/
theorem atK_fixed {r : Ref sig .tc} (hr : r ∈ fixedRefs) (c : Dev nD) :
    ∀ k, atK m k c (Proc.devRef .tc r) = after hostOps0 (fun b => m (c, b)) (Proc.devRef .tc r)
  | 0 => by
    rw [show atK m 0 c = entryContents preI m c from rfl]
    simp only [entryContents, preI, afterL_cons, afterL_nil]
  | k + 1 => by
    rw [show atK m (k + 1) c = afterL bodyI (after condOps (atK m k c)) from rfl]
    simp only [bodyI, afterL_cons, afterL_nil]
    rw [after_of_writes_sub _ _ while0Ops0_1_writes (not_mem_of_disjoint (by decide) hr),
      after_of_writes_sub _ _ while0Ops0_writes (not_mem_of_disjoint (by decide) hr),
      after_of_writes_sub _ _ condOps_writes (not_mem_of_disjoint (by decide) hr), atK_fixed hr c k]

/-- At the loop's entry the transposed input holds time step, row, feature in that order. -/
theorem entry_x (V : Valuation τ sig (Elt Ideal)) :
    after hostOps0 V (Proc.devRef .tc main_v2_0) =
      transpose S20x1024x64 [1, 0, 2] (V (Proc.devRef .tc main_arg0) : FVec Ideal S1024x20x64 .f32)
        transposes_S1024x20x64_S20x1024x64_1_0_2 := by
  after_results_entrywise []

/-- At the loop's entry the input weights are as launched. -/
theorem entry_wih (V : Valuation τ sig (Elt Ideal)) :
    after hostOps0 V (Proc.devRef .tc main_v2_1) = V (Proc.devRef .tc main_arg2) := by
  after_results_entrywise []

/-- At the loop's entry the recurrent weights are as launched. -/
theorem entry_whh (V : Valuation τ sig (Elt Ideal)) :
    after hostOps0 V (Proc.devRef .tc main_v2_2) = V (Proc.devRef .tc main_arg3) := by
  after_results_entrywise []

/-- At the loop's entry the input bias is as launched. -/
theorem entry_bih (V : Valuation τ sig (Elt Ideal)) :
    after hostOps0 V (Proc.devRef .tc main_v2_3) = V (Proc.devRef .tc main_arg4) := by
  after_results_entrywise []

/-- At the loop's entry the recurrent bias is as launched. -/
theorem entry_bhh (V : Valuation τ sig (Elt Ideal)) :
    after hostOps0 V (Proc.devRef .tc main_v2_4) = V (Proc.devRef .tc main_arg5) := by
  after_results_entrywise []

/-- At the loop's entry the hidden state is zero. -/
theorem entry_h (V : Valuation τ sig (Elt Ideal)) :
    after hostOps0 V (Proc.devRef .tc main_v2_6) =
      broadcastInDim S8x1024x64 ![] bcast_S_S8x1024x64 (constant S_ .f32 0x00000000#32 : FVec Ideal S_ .f32) := by
  after_results_entrywise []

/-- The specification's arrays out of the launch contents. -/
abbrev args (c : Dev nD) : Spec.Params :=
  Spec.ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- One trip's hidden states from the contents before it. -/
theorem trip_h (V : Valuation τ sig (Elt Ideal)) :
    afterL bodyI (after condOps V) (Proc.devRef .tc main_v2_6) =
      cell (slice (V (Proc.devRef .tc main_v2_0)) (V (Proc.devRef .tc main_v2_5))) (V (Proc.devRef .tc main_v2_1))
        (V (Proc.devRef .tc main_v2_2)) (V (Proc.devRef .tc main_v2_3)) (V (Proc.devRef .tc main_v2_4))
        (V (Proc.devRef .tc main_v2_6)) := by
  have keep : ∀ r ∈ [main_v2_1, main_v2_2, main_v2_3, main_v2_4, main_v2_6],
      after while0Ops0 (after condOps V) (Proc.devRef .tc r) = V (Proc.devRef .tc r) := fun r hr => by
    rw [after_of_writes_sub _ _ while0Ops0_writes (not_mem_of_disjoint (by decide) hr),
      after_of_writes_sub _ _ condOps_writes (not_mem_of_disjoint (by decide) hr)]
  simp only [bodyI, afterL_cons, afterL_nil]
  rw [stepped, sliced, keep _ (by decide), keep _ (by decide), keep _ (by decide), keep _ (by decide),
    keep _ (by decide), ctr_cond, after_of_writes_sub _ _ condOps_writes (by decide : main_v2_0 ∉ condOps_W)]

/-- A product with its factors swapped, one of them rewritten. -/
theorem mul_swap {a b c : EReal} (h : b = c) : a * b = c * a := by rw [h, mul_comm]

/-- The hidden states before trip `k` are the specification's after `k` time steps. -/
theorem hidden (c : Dev nD) : ∀ k, k ≤ 20 → ∀ (e : Fin 8) (b : Fin 1024) (j : Fin 64),
    (atK m k c (Proc.devRef .tc main_v2_6) : FVec Ideal S8x1024x64 .f32) (ix3 e b j) = (args m c).hid k e b j
  | 0, _, e, b, j => by
    rw [show atK m 0 c = entryContents preI m c from rfl]
    simp only [entryContents, preI, afterL_cons, afterL_nil]
    rw [entry_h]
    pointwise [Spec.Params.hid]
  | k + 1, hk, e, b, j => by
    have ih := hidden c k (by omega)
    rw [show atK m (k + 1) c = afterL bodyI (after condOps (atK m k c)) from rfl, trip_h, atK_ctr,
      atK_fixed m (by decide), atK_fixed m (by decide), atK_fixed m (by decide), atK_fixed m (by decide),
      atK_fixed m (by decide), entry_x, entry_wih, entry_whh, entry_bih, entry_bhh]
    refine (cell_apply _ _ _ _ _ _ e b j).trans ?_
    show _ = Ideal.tanh ((args m c).pre k ((args m c).hid k) e b j)
    simp only [ih]
    refine congrArg Ideal.tanh ?_
    unfold Spec.Params.pre
    refine congrArg (· + _ + _ + _) (Finset.sum_congr rfl fun i _ => ?_)
    have hs := slice_apply (transpose S20x1024x64 [1, 0, 2] (m ((c.tc : Thread nD τ).loc main_arg0) : FVec Ideal S1024x20x64 .f32)
        transposes_S1024x20x64_S20x1024x64_1_0_2) ⟨k, by omega⟩ b i
    refine mul_swap (hs.trans ?_)
    have hof : Fin.ofNat 20 k = (⟨k, by omega⟩ : Fin 20) := Fin.ext (Nat.mod_eq_of_lt (by omega))
    rw [hof]
    pointwise [Spec.ofArgs]

/-- The hidden states after the loop are the specification's after all twenty time steps. -/
theorem exit_h (c : Dev nD) (e : Fin 8) (b : Fin 1024) (j : Fin 64) :
    (exitContents m c (Proc.devRef .tc main_v2_6) : FVec Ideal S8x1024x64 .f32) (ix3 e b j) = (args m c).hid 20 e b j := by
  rw [exitContents, after_of_writes_sub _ _ condOps_writes (by decide : main_v2_6 ∉ condOps_W)]
  exact hidden m c 20 le_rfl e b j

end Cert.ReferenceIdeal.Value

end
-- ==== Proof.RefStages.lean ====
/- What the reference computes after its loop, stage by stage, as functions of the arrays each stage reads, and that the
   operation stretches leave exactly those. -/
module

public import proofs.«01_k».proof.Proof.RefTrip
public import Idealize.ShloMosaic.PureOps.Ideal
public import Idealize.ShloMosaic.Lib.StableHlo.RunClose

@[expose] public section

set_option maxRecDepth 16384
set_option maxHeartbeats 4000000

noncomputable section

namespace Cert.ReferenceIdeal.Value

open Cert.ReferenceIdeal Cert.ReferenceIdeal.Gen
open Idealize.ShloMosaic Idealize.ShloMosaic.TcCoe Idealize.ShloMosaic.StableHlo
open Idealize.SL.Sem
open Cert

/-- The experts' outputs from the last hidden states: two dense layers with a hyperbolic tangent between. -/
abbrev dense (h : FVec Ideal S8x1024x64 .f32) (fc1 : FVec Ideal S8x20x64 .f32) (b1 : FVec Ideal S8x20 .f32)
    (fc2 : FVec Ideal S8x1x20 .f32) (b2 : FVec Ideal S8x1 .f32) : FVec Ideal S8x1024x1 .f32 :=
  addf (Host.dotGeneral dot_S8x1024x20_S8x1x20_S8x1024x1_2_2_1_1_0_0 none
      (Host.tanh (addf (Host.dotGeneral dot_S8x1024x64_S8x20x64_S8x1024x20_2_2_1_1_0_0 none h fc1)
        (broadcastInDim S8x1024x20 ![0, 1, 2] bcast_S8x1x20_S8x1024x20_0_1_2
          (broadcastInDim S8x1x20 ![0, 2] bcast_S8x20_S8x1x20_0_2 b1)))) fc2)
    (broadcastInDim S8x1024x1 ![0, 1, 2] bcast_S8x1x1_S8x1024x1_0_1_2
      (broadcastInDim S8x1x1 ![0, 2] bcast_S8x1_S8x1x1_0_2 b2))

/-- The gate's logits from the last time step of the input. -/
abbrev logits (x : FVec Ideal S1024x20x64 .f32) (wg : FVec Ideal S64x8 .f32) : FVec Ideal S1024x8 .f32 :=
  Host.dotGeneral dot_S1024x64_S64x8_S1024x8_1_0_0_1_n_n none
    (shapeCast S1024x64 (extractStridedSlice S1024x1x64 ![0, 19, 0] x slices_S1024x20x64_S1024x1x64_0_19_0)
      shapeCasts_S1024x1x64_S1024x64) wg

/-- The two greatest values of each row, in descending order. -/
abbrev topValues (l : FVec Ideal S1024x8 .f32) : FVec Ideal S1024x2 .f32 :=
  extractStridedSlice S1024x2 ![0, 0] (Host.topK S1024x3 1 (FloatOps.cmpfTotal (F := Ideal) .gt) l sliceFits_S1024x8_S1024x3).1
    slices_S1024x3_S1024x2_0_0

/-- The columns of the two greatest values of each row. -/
abbrev topColumns (l : FVec Ideal S1024x8 .f32) : IVec S1024x2 32 :=
  extractStridedSlice S1024x2 ![0, 0] (Host.topK S1024x3 1 (FloatOps.cmpfTotal (F := Ideal) .gt) l sliceFits_S1024x8_S1024x3).2
    slices_S1024x3_S1024x2_0_0

/-- The exponentials of two values per row, each relative to the greater. -/
abbrev exps (v : FVec Ideal S1024x2 .f32) : FVec Ideal S1024x2 .f32 :=
  Host.exp (subf v (broadcastInDim S1024x2 ![0, 1] bcast_S1024x1_S1024x2_0_1
    (broadcastInDim S1024x1 ![0] bcast_S1024_S1024x1_0
      (maximumf (broadcastInDim S1024 ![] bcast_S_S1024 (constant S_ .f32 0xFF800000#32 : FVec Ideal S_ .f32))
        (Host.reduce (FloatOps.maximumf (F := Ideal)) v (constant S_ .f32 0xFF800000#32 : FVec Ideal S_ .f32)
          reducesTo_S1024x2_S1024_d1 h_S_)))))

/-- Two values per row, each over their sum. -/
abbrev shares (w : FVec Ideal S1024x2 .f32) : FVec Ideal S1024x2 .f32 :=
  Host.divf w (broadcastInDim S1024x2 ![0, 1] bcast_S1024x1_S1024x2_0_1
    (broadcastInDim S1024x1 ![0] bcast_S1024_S1024x1_0
      (Host.reduceAdd w (constant S_ .f32 0x00000000#32 : FVec Ideal S_ .f32) reducesTo_S1024x2_S1024_d1 h_S_)))

/-- The row number of each row. -/
abbrev rowNumbers : IVec S1024x1 32 :=
  broadcastInDim S1024x1 ![0] bcast_S1024_S1024x1_0 (iotaInDim S1024 32 0)

/-- The row coordinates of the positions the gates are written at. -/
abbrev rowPart : IVec S1024x1 32 :=
  select (cmpi .slt rowNumbers (broadcastInDim S1024x1 ![] bcast_S_S1024x1 (constantI S_ 32 0#32)))
    (addi rowNumbers (broadcastInDim S1024x1 ![] bcast_S_S1024x1 (constantI S_ 32 1024#32))) rowNumbers

/-- The column coordinates of the positions the gates are written at. -/
abbrev columnPart (i : IVec S1024x2 32) : IVec S1024x2 32 :=
  select (cmpi .slt i (broadcastInDim S1024x2 ![] bcast_S_S1024x2 (constantI S_ 32 0#32)))
    (addi i (broadcastInDim S1024x2 ![] bcast_S_S1024x2 (constantI S_ 32 8#32))) i

/-- The positions the gates are written at: row and column. -/
abbrev positions (i : IVec S1024x2 32) : IVec S1024x2x2 32 :=
  concatenate S1024x2x2 2
    [⟨S1024x2x1, broadcastInDim S1024x2x1 ![0, 1] bcast_S1024x2_S1024x2x1_0_1
      (broadcastInDim S1024x2 ![0, 1] bcast_S1024x1_S1024x2_0_1 rowPart)⟩,
     ⟨S1024x2x1, broadcastInDim S1024x2x1 ![0, 1] bcast_S1024x2_S1024x2x1_0_1 (columnPart i)⟩]
    concatenates_S1024x2x1_S1024x2x1_S1024x2x2_d2

/-- The gates: zeros with each row's two shares written at the two greatest logits' columns. -/
abbrev gating (l : FVec Ideal S1024x8 .f32) : FVec Ideal S1024x8 .f32 :=
  Host.scatter scatter_S1024x8_S1024x2x2_S1024x2_n_01_01_2 (fun _ b => b)
    (broadcastInDim S1024x8 ![] bcast_S_S1024x8 (constant S_ .f32 0x00000000#32 : FVec Ideal S_ .f32))
    (positions (topColumns l)) (shares (exps (topValues l)))

/-- The sums of the gates over the rows. -/
abbrev columnSums (g : FVec Ideal S1024x8 .f32) : FVec Ideal S8 .f32 :=
  Host.reduceAdd g (constant S_ .f32 0x00000000#32 : FVec Ideal S_ .f32) reducesTo_S1024x8_S8_d0 h_S_

/-- The number of rows with a positive gate, per expert, as a word. -/
abbrev counts (g : FVec Ideal S1024x8 .f32) : IVec S8 32 :=
  Host.reduce IntOp.addi
    (extui 32 (cmpf .ogt g (broadcastInDim S1024x8 ![] bcast_S_S1024x8 (constant S_ .f32 0x00000000#32 : FVec Ideal S_ .f32)))
      natLt_1_32) (constantI S_ 32 0#32) reducesTo_S1024x8_S8_d0 h_S_

/-- The experts' outputs are left by the first stretch. -/
theorem stage_out (V : Valuation τ sig (Elt Ideal)) :
    after hostOps0_1 V (Proc.devRef .tc main_v11) =
      dense (V (Proc.devRef .tc main_v2_6)) (V (Proc.devRef .tc main_arg6)) (V (Proc.devRef .tc main_arg7))
        (V (Proc.devRef .tc main_arg8)) (V (Proc.devRef .tc main_arg9)) := by
  after_results_entrywise []

/-- The gates are left by the first stretch. -/
theorem stage_gates (V : Valuation τ sig (Elt Ideal)) :
    after hostOps0_1 V (Proc.devRef .tc main_v45) =
      gating (logits (V (Proc.devRef .tc main_arg0)) (V (Proc.devRef .tc main_arg1))) := by
  after_results_entrywise []

/-- The gates' column sums are left by the first stretch. -/
theorem stage_sums (V : Valuation τ sig (Elt Ideal)) :
    after hostOps0_1 V (Proc.devRef .tc main_v46) =
      columnSums (gating (logits (V (Proc.devRef .tc main_arg0)) (V (Proc.devRef .tc main_arg1)))) := by
  after_results_entrywise []

/-- The counts of positive gates are left by the first stretch. -/
theorem stage_counts (V : Valuation τ sig (Elt Ideal)) :
    after hostOps0_1 V (Proc.devRef .tc main_v50) =
      counts (gating (logits (V (Proc.devRef .tc main_arg0)) (V (Proc.devRef .tc main_arg1)))) := by
  after_results_entrywise []

/-- The first stretch leaves the variance's correction at one. -/
theorem stage_one (V : Valuation τ sig (Elt Ideal)) :
    after hostOps0_1 V (Proc.devRef .tc main_c_11) = constantI S_ 32 1#32 := by
  after_results_entrywise []

end Cert.ReferenceIdeal.Value

end
-- ==== Proof.RefTop.lean ====
/- The two greatest values of a row and their columns, as the reference's stable sort finds them, and where the two gates
   are written. -/
module

public import proofs.«01_k».proof.Proof.RefStages
public import proofs.«01_k».proof.Proof.Gates
public import proofs.«01_k».proof.Proof.Lits
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Cert

/-- Column `a` of row `r` sorts before column `b`: its value is greater. -/
def order (l : FVec Ideal S1024x8 .f32) (r : Fin 1024) (a b : Fin 8) : Bool :=
  FloatOps.cmpfTotal (F := Ideal) (φ := .f32) .gt (l (ix2 r a)) (l (ix2 r b)) == 1#1

/-- The sort's order is the extended reals' order, greater first. -/
theorem order_iff (l : FVec Ideal S1024x8 .f32) (r : Fin 1024) (a b : Fin 8) :
    order l r a b = true ↔ (l (ix2 r b) : EReal) < l (ix2 r a) := by
  unfold order
  show (Ideal.cmp CmpDirection.gt.ordered (l (ix2 r a)) (l (ix2 r b)) == 1#1) = true ↔ _
  have h : Ideal.cmp CmpDirection.gt.ordered (l (ix2 r a)) (l (ix2 r b))
      = BitVec.ofBool (decide ((l (ix2 r b) : EReal) < l (ix2 r a))) := rfl
  rw [h]
  by_cases hlt : (l (ix2 r b) : EReal) < l (ix2 r a) <;> simp [hlt]

/-- The column the sort puts at position `q` of row `r`. -/
abbrev place (l : FVec Ideal S1024x8 .f32) (r : Fin 1024) (q : Fin 2) : Fin 8 := sortedFrom (order l r) (q.castLE (by decide))

/-- An index along the columns of row `r` is the row with that column. -/
theorem along_row (j : S1024x8.Idx) (r : Fin 1024) (k : Fin 8) (h : j 0 = r) : j.along 1 k = (ix2 r k : S1024x8.Idx) := by
  funext d
  match d with
  | 0 => exact (Function.update_of_ne (by decide) _ _).trans h
  | 1 => exact Function.update_self _ _ _

/-- The sort of a row with a payload: both are permuted by the row's order. -/
theorem sorted_row {β : Type} (l : FVec Ideal S1024x8 .f32) (y : S1024x8.Idx → β) (r : Fin 1024) (k : Fin 8) :
    (Host.sort2 S1024x8 1 (fun p p' => FloatOps.cmpfTotal (F := Ideal) (φ := .f32) .gt p.1 p'.1) l y).1 (ix2 r k)
        = l (ix2 r (sortedFrom (order l r) k))
      ∧ (Host.sort2 S1024x8 1 (fun p p' => FloatOps.cmpfTotal (F := Ideal) (φ := .f32) .gt p.1 p'.1) l y).2 (ix2 r k)
        = y (ix2 r (sortedFrom (order l r) k)) := by
  have hP : (fun a b : Fin 8 => FloatOps.cmpfTotal (F := Ideal) (φ := .f32) .gt (l ((ix2 r k : S1024x8.Idx).along 1 a))
      (l ((ix2 r k : S1024x8.Idx).along 1 b)) == 1#1) = order l r :=
    funext fun a => funext fun b => congrArg₂ (fun u v => FloatOps.cmpfTotal (F := Ideal) (φ := .f32) .gt u v == 1#1)
      (congrArg l (along_row _ r a rfl)) (congrArg l (along_row _ r b rfl))
  have key : ∀ {γ : Type} (z : S1024x8.Idx → γ) (P : Fin 8 → Fin 8 → Bool), P = order l r →
      z ((ix2 r k : S1024x8.Idx).along 1 (sortedFrom P k)) = z (ix2 r (sortedFrom (order l r) k)) := by
    rintro γ z P rfl
    exact congrArg z (along_row _ r _ rfl)
  exact ⟨key l _ hP, key y _ hP⟩

/-- The first two columns of the first three columns are the first two columns. -/
theorem two_of_three {α : Type} (x : S1024x8.Idx → α) (r : Fin 1024) (q : Fin 2) :
    extractStridedSlice S1024x2 ![0, 0] (extractStridedSlice S1024x3 (fun _ => 0) x sliceFits_S1024x8_S1024x3)
      slices_S1024x3_S1024x2_0_0 (ix2 r q) = x (ix2 r (q.castLE (by decide) : Fin 8)) := by
  refine congrArg x (funext fun d => Fin.ext ?_)
  match d with
  | 0 => show 0 + (0 + r.val) = r.val; omega
  | 1 => show 0 + (0 + q.val) = q.val; omega

/-- The column number at every index, the sort's payload. -/
abbrev columns : IVec S1024x8 32 := fun i => if hd : 1 < S1024x8.rank then iotaInDim S1024x8 32 ⟨1, hd⟩ i else 0#32

/-- The `q`-th greatest value of row `r`. -/
theorem topValues_apply (l : FVec Ideal S1024x8 .f32) (r : Fin 1024) (q : Fin 2) :
    topValues l (ix2 r q) = l (ix2 r (place l r q)) :=
  (two_of_three _ r q).trans (sorted_row l columns r _).1

/-- The column of the `q`-th greatest value of row `r`, as a word. -/
theorem topColumns_apply (l : FVec Ideal S1024x8 .f32) (r : Fin 1024) (q : Fin 2) :
    topColumns l (ix2 r q) = BitVec.ofNat 32 (place l r q).val :=
  (two_of_three _ r q).trans ((sorted_row l columns r _).2.trans rfl)

/-- The exponentials at row `r`: relative to the greater of the two. -/
theorem exps_apply (v : FVec Ideal S1024x2 .f32) (r : Fin 1024) (q : Fin 2) :
    exps v (ix2 r q) = Ideal.exp (v (ix2 r q) - max (v (ix2 r 0)) (v (ix2 r 1))) := by
  pointwise [exps, Lits.neg_inf]
  have h : Finset.fold max ⊥ (fun x : Fin 2 => (v (ix2 r x) : EReal)) Finset.univ = max (v (ix2 r 0)) (v (ix2 r 1)) := by
    rw [show (Finset.univ : Finset (Fin 2)) = {0, 1} from rfl, Finset.fold_insert (by decide), Finset.fold_singleton]
    exact congrArg (max _) (max_bot_right _)
  exact congrArg (fun z => Ideal.exp (v (ix2 r q) - z)) ((max_bot_left _).trans h)

/-- The shares at row `r`. -/
theorem shares_apply (w : FVec Ideal S1024x2 .f32) (r : Fin 1024) (q : Fin 2) :
    shares w (ix2 r q) = Ideal.div (w (ix2 r q)) (w (ix2 r 0) + w (ix2 r 1)) := by
  pointwise [shares]
  rw [Fin.sum_univ_two]

/-- The row word of update `(r, q)` is the row. -/
theorem positions_row (i : IVec S1024x2 32) (r : Fin 1024) (q : Fin 2) :
    positions i (ix3 r q 0) = BitVec.ofNat 32 r.val := by
  pointwise [positions, rowPart]
  refine Routing.wrap_of_lt _ _ ?_
  have := r.isLt
  rw [BitVec.toNat_ofNat]
  omega

/-- The column word of update `(r, q)`. -/
theorem positions_column (i : IVec S1024x2 32) (r : Fin 1024) (q : Fin 2) (h : (i (ix2 r q)).toNat < 2 ^ 31) :
    positions i (ix3 r q 1) = i (ix2 r q) := by
  pointwise [positions, columnPart]
  exact Routing.wrap_of_lt _ _ h

/-- A small number as a 32-bit word, read signed, is the number. -/
theorem word_toInt {n : ℕ} (h : n < 1024) : (BitVec.ofNat 32 n).toInt = (n : Int) := by
  rw [BitVec.toInt_eq_toNat_of_lt (by rw [BitVec.toNat_ofNat]; omega), BitVec.toNat_ofNat]
  omega

/-- Update `(r, q)` of the gates is written at row `r` and the column of that row's `q`-th greatest logit. -/
theorem lands (l : FVec Ideal S1024x8 .f32) (a r : Fin 1024) (q : Fin 2) (e : Fin 8) :
    scatter_S1024x8_S1024x2x2_S1024x2_n_01_01_2.resultIdx? (ix2 a q) (positions (topColumns l)) = some (ix2 r e)
      ↔ a = r ∧ place l a q = e := by
  have hcol : (topColumns l (ix2 a q)).toNat < 2 ^ 31 := by
    have := (place l a q).isLt
    rw [topColumns_apply, BitVec.toNat_ofNat]
    omega
  refine (Routing.scatter_lands2 scatter_S1024x8_S1024x2x2_S1024x2_n_01_01_2 rfl rfl rfl _ a q r e).trans ?_
  have h0 : (positions (topColumns l) (ix3 a q 0)).toInt = (a.val : Int) := by
    rw [positions_row, word_toInt a.isLt]
  have h1 : (positions (topColumns l) (ix3 a q 1)).toInt = ((place l a q).val : Int) := by
    rw [positions_column _ _ _ hcol, topColumns_apply, word_toInt (by have := (place l a q).isLt; omega)]
  refine (and_congr (Eq.congr_left h0) (Eq.congr_left h1)).trans ?_
  rw [Fin.ext_iff, Fin.ext_iff]
  omega

/-- An index of the two shares' array is its row and its position. -/
theorem pair_index (k : S1024x2.Idx) : ∃ (a : Fin 1024) (b : Fin 2), k = (ix2 a b : S1024x2.Idx) :=
  ⟨k 0, k 1, by
    funext d
    match d with
    | 0 => rfl
    | 1 => rfl⟩

/-- A function of two positions that differ is one to one. -/
theorem two_inj {f : Fin 2 → Fin 8} (h : f 1 ≠ f 0) : ∀ a b : Fin 2, f a = f b → a = b := by
  intro a b hab
  match a, b, hab with
  | 0, 0, _ => rfl
  | 1, 1, _ => rfl
  | 0, 1, g => exact absurd g.symm h
  | 1, 0, g => exact absurd g h

/-- The gates at row `r`: the share of the second greatest logit at its column, of the greatest at its, else zero. -/
theorem gating_apply (l : FVec Ideal S1024x8 .f32) (r : Fin 1024) (e : Fin 8) :
    gating l (ix2 r e) =
      if e = place l r 1 then shares (exps (topValues l)) (ix2 r 1)
      else if e = place l r 0 then shares (exps (topValues l)) (ix2 r 0) else 0 := by
  have hne : place l r 1 ≠ place l r 0 := by
    have h := Spec.sortedFrom_one_ne (order_iff l r)
    rw [← Spec.sortedFrom_zero (order_iff l r)] at h
    exact h
  have hit : ∀ q : Fin 2, e = place l r q → gating l (ix2 r e) = shares (exps (topValues l)) (ix2 r q) := fun q hq => by
    refine Routing.scatter_set_hit _ _ _ _ _ _ (fun k hk => ?_) (ix2 r q) ((lands l r r q e).2 ⟨rfl, hq.symm⟩)
    obtain ⟨a, b, rfl⟩ := pair_index k
    obtain ⟨rfl, hb⟩ := (lands l a r b e).1 hk
    have hbq : b = q := two_inj (f := place l a) hne b q (hb.trans hq)
    rw [hbq]
  split_ifs with h1 h0
  · exact hit 1 h1
  · exact hit 0 h0
  · refine (Routing.scatter_set_miss _ _ _ _ _ (fun k hk => ?_)).trans ?_
    · obtain ⟨a, b, rfl⟩ := pair_index k
      obtain ⟨rfl, hb⟩ := (lands l a r b e).1 hk
      have hb' : ∀ q : Fin 2, place l a q ≠ e := Fin.forall_fin_two.mpr ⟨fun h => h0 h.symm, fun h => h1 h.symm⟩
      exact hb' b hb
    · pointwise []

/-- Where the greatest logit of row `r` is finite, the row's gates are the specification's. -/
theorem gating_spec (l : FVec Ideal S1024x8 .f32) (r : Fin 1024)
    (hbot : (l (ix2 r (Spec.first fun e => l (ix2 r e))) : EReal) ≠ ⊥)
    (htop : (l (ix2 r (Spec.first fun e => l (ix2 r e))) : EReal) ≠ ⊤) (e : Fin 8) :
    gating l (ix2 r e) = Spec.gate (fun e => l (ix2 r e)) e := by
  have hle : (l (ix2 r (place l r 1)) : EReal) ≤ l (ix2 r (place l r 0)) := by
    have h := (Spec.first_isTop (fun e => (l (ix2 r e) : EReal))).le (place l r 1)
    rw [← Spec.sortedFrom_zero (order_iff l r)] at h
    exact h
  rw [gating_apply, Spec.gate_eq_sorted (order_iff l r) hbot htop]
  simp only [shares_apply, exps_apply, topValues_apply, max_eq_left hle]
  rfl

end Cert.ReferenceIdeal.Value

end
-- ==== Proof.RefTail.lean ====
/- The reference's last four stretches, as functions of the gates' column sums, the counts, the gates and the experts'
   outputs, and that the whole tail leaves exactly those in the two results. -/
module

public import proofs.«01_k».proof.Proof.RefStages

@[expose] public section

set_option maxRecDepth 16384
set_option maxHeartbeats 4000000

noncomputable section

namespace Cert.ReferenceIdeal.Value

open Cert.ReferenceIdeal Cert.ReferenceIdeal.Gen
open Idealize.ShloMosaic Idealize.ShloMosaic.TcCoe Idealize.ShloMosaic.StableHlo
open Idealize.SL.Sem
open Cert

/-- The sum of eight numbers. -/
abbrev total (v : FVec Ideal S8 .f32) : FVec Ideal S_ .f32 :=
  Host.reduceAdd v (constant S_ .f32 0x00000000#32 : FVec Ideal S_ .f32) reducesTo_S8_S_d0 h_S_

/-- The differences of eight numbers from their mean. -/
abbrev centred (v : FVec Ideal S8 .f32) : FVec Ideal S8 .f32 :=
  subf v (broadcastInDim S8 ![0] bcast_S1_S8_0
    (Host.divf (broadcastInDim S1 ![] bcast_S_S1 (total v))
      (broadcastInDim S1 ![] bcast_S_S1 (constant S_ .f32 0x41000000#32 : FVec Ideal S_ .f32))))

/-- The divisor of the variance: eight less the correction. -/
abbrev divisor (d : IVec S_ 32) : FVec Ideal S_ .f32 :=
  subf (constant S_ .f32 0x41000000#32 : FVec Ideal S_ .f32) (sitofp .f32 d)

/-- The variance of eight numbers with a correction to its divisor. -/
abbrev variance (v : FVec Ideal S8 .f32) (d : IVec S_ 32) : FVec Ideal S_ .f32 :=
  select (cmpf .ogt (divisor d) (constant S_ .f32 0x00000000#32 : FVec Ideal S_ .f32))
    (Host.divf (total (mulf (centred v) (centred v))) (divisor d)) (constant S_ .f32 0x7FC00000#32 : FVec Ideal S_ .f32)

/-- The squared mean of eight numbers plus the small literal. -/
abbrev meanSq (v : FVec Ideal S8 .f32) : FVec Ideal S_ .f32 :=
  addf (mulf (Host.divf (total v) (constant S_ .f32 0x41000000#32 : FVec Ideal S_ .f32))
      (Host.divf (total v) (constant S_ .f32 0x41000000#32 : FVec Ideal S_ .f32)))
    (constant S_ .f32 0x2EDBE6FF#32 : FVec Ideal S_ .f32)

/-- The gated sum of the experts' outputs. -/
abbrev weighted (g : FVec Ideal S1024x8 .f32) (o : FVec Ideal S8x1024x1 .f32) : FVec Ideal S1024x1 .f32 :=
  Host.dotGeneral dot_S1024x8_S8x1024x1_S1024x1_1_0_n_2_0_1 none g o

/-- The variance of the gates' column sums. -/
theorem tail_var1 (V : Valuation τ sig (Elt Ideal)) :
    after hostOps0_2 V (Proc.devRef .tc main_v51) =
      variance (V (Proc.devRef .tc main_v46)) (V (Proc.devRef .tc main_c_11)) := by
  after_results_entrywise []

/-- The first squared coefficient of variation, from the variance left before it. -/
theorem tail_cv1 (V : Valuation τ sig (Elt Ideal)) :
    after hostOps0_3 V (Proc.devRef .tc main_v56) =
      (Host.divf (V (Proc.devRef .tc main_v51) : FVec Ideal S_ .f32) (meanSq (V (Proc.devRef .tc main_v46))) : FVec Ideal S_ .f32) := by
  after_results_entrywise []

/-- The counts as numbers. -/
theorem tail_load (V : Valuation τ sig (Elt Ideal)) :
    after hostOps0_3 V (Proc.devRef .tc main_v57) =
      (sitofp .f32 (V (Proc.devRef .tc main_v50) : IVec S8 32) : FVec Ideal S8 .f32) := by
  after_results_entrywise []

/-- The second variance's correction is one. -/
theorem tail_one (V : Valuation τ sig (Elt Ideal)) :
    after hostOps0_3 V (Proc.devRef .tc main_c_15) = constantI S_ 32 1#32 := by
  after_results_entrywise []

/-- The variance of the counts. -/
theorem tail_var2 (V : Valuation τ sig (Elt Ideal)) :
    after hostOps0_4 V (Proc.devRef .tc main_v58) =
      variance (V (Proc.devRef .tc main_v57)) (V (Proc.devRef .tc main_c_15)) := by
  after_results_entrywise []

/-- The first result: the gated sum of the experts' outputs. -/
theorem tail_y (V : Valuation τ sig (Elt Ideal)) :
    after hostOps0_5 V (Proc.devRef .tc main_v66) =
      weighted (V (Proc.devRef .tc main_v45)) (V (Proc.devRef .tc main_v11)) := by
  after_results_entrywise []

/-- The second result, from the first coefficient, the second variance and the counts. -/
theorem tail_loss (V : Valuation τ sig (Elt Ideal)) :
    after hostOps0_5 V (Proc.devRef .tc main_v67) =
      (shapeCast S1x1 (mulf (addf (V (Proc.devRef .tc main_v56) : FVec Ideal S_ .f32)
          (Host.divf (V (Proc.devRef .tc main_v58) : FVec Ideal S_ .f32) (meanSq (V (Proc.devRef .tc main_v57)))))
        (constant S_ .f32 0x3C23D70A#32 : FVec Ideal S_ .f32)) shapeCasts_S_S1x1 : FVec Ideal S1x1 .f32) := by
  after_results_entrywise []

/-- The balance loss from the column sums and the counts. -/
abbrev balance (s : FVec Ideal S8 .f32) (n : IVec S8 32) : FVec Ideal S1x1 .f32 :=
  shapeCast S1x1 (mulf (addf (Host.divf (variance s (constantI S_ 32 1#32)) (meanSq s))
      (Host.divf (variance (sitofp .f32 n) (constantI S_ 32 1#32)) (meanSq (sitofp .f32 n))))
    (constant S_ .f32 0x3C23D70A#32 : FVec Ideal S_ .f32)) shapeCasts_S_S1x1

/-- The first result at the end of the tail. -/
theorem final_y (V : Valuation τ sig (Elt Ideal)) :
    afterL postI V (Proc.devRef .tc main_v66) =
      weighted
        (gating (logits (V (Proc.devRef .tc main_arg0)) (V (Proc.devRef .tc main_arg1))))
        (dense (V (Proc.devRef .tc main_v2_6)) (V (Proc.devRef .tc main_arg6)) (V (Proc.devRef .tc main_arg7))
          (V (Proc.devRef .tc main_arg8)) (V (Proc.devRef .tc main_arg9))) := by
  have keep : ∀ r ∈ [main_v45, main_v11], ∀ W : Valuation τ sig (Elt Ideal),
      after hostOps0_4 (after hostOps0_3 (after hostOps0_2 W)) (Proc.devRef .tc r) = W (Proc.devRef .tc r) := fun r hr W => by
    rw [after_of_writes_sub _ _ hostOps0_4_writes (not_mem_of_disjoint (by decide) hr),
      after_of_writes_sub _ _ hostOps0_3_writes (not_mem_of_disjoint (by decide) hr),
      after_of_writes_sub _ _ hostOps0_2_writes (not_mem_of_disjoint (by decide) hr)]
  simp only [postI, afterL_cons, afterL_nil]
  rw [tail_y, keep _ (by decide), keep _ (by decide), stage_gates, stage_out]

/-- The second result at the end of the tail. -/
theorem final_loss (V : Valuation τ sig (Elt Ideal)) :
    afterL postI V (Proc.devRef .tc main_v67) =
      balance (columnSums (gating (logits (V (Proc.devRef .tc main_arg0)) (V (Proc.devRef .tc main_arg1)))))
        (counts (gating (logits (V (Proc.devRef .tc main_arg0)) (V (Proc.devRef .tc main_arg1))))) := by
  simp only [postI, afterL_cons, afterL_nil]
  rw [tail_loss, tail_var2, after_of_writes_sub _ _ hostOps0_4_writes (by decide : main_v56 ∉ hostOps0_4_W),
    after_of_writes_sub _ _ hostOps0_4_writes (by decide : main_v57 ∉ hostOps0_4_W), tail_cv1, tail_load, tail_one, tail_var1,
    after_of_writes_sub _ _ hostOps0_2_writes (by decide : main_v46 ∉ hostOps0_2_W),
    after_of_writes_sub _ _ hostOps0_2_writes (by decide : main_v50 ∉ hostOps0_2_W), stage_sums, stage_counts, stage_one]

end Cert.ReferenceIdeal.Value

end
-- ==== Proof.RefLoss.lean ====
/- The reference's stages as sums over the extended reals: logits, experts' outputs, the gated sum, the column sums, the
   counts and the balance loss. -/
module

public import proofs.«01_k».proof.Proof.RefTail
public import proofs.«01_k».proof.Proof.Spec
public import proofs.«01_k».proof.Proof.Lits
public import Idealize.ShloMosaic.Lib.Pointwise
public import Idealize.ShloMosaic.Lib.IndicatorCount
public import Idealize.ShloMosaic.Lib.DynamicIndex

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Cert

/-- The logits as sums over the features of the last time step. -/
theorem logits_apply (x : FVec Ideal S1024x20x64 .f32) (wg : FVec Ideal S64x8 .f32) (r : Fin 1024) (e : Fin 8) :
    logits x wg (ix2 r e) = ∑ i : Fin 64, x (ix3 r 19 i) * wg (ix2 i e) := by
  pointwise [logits]

/-- The experts' outputs as sums. -/
theorem dense_apply (h : FVec Ideal S8x1024x64 .f32) (fc1 : FVec Ideal S8x20x64 .f32) (b1 : FVec Ideal S8x20 .f32)
    (fc2 : FVec Ideal S8x1x20 .f32) (b2 : FVec Ideal S8x1 .f32) (e : Fin 8) (r : Fin 1024) :
    dense h fc1 b1 fc2 b2 (ix3 e r 0) =
      (∑ o : Fin 20, Ideal.tanh ((∑ j : Fin 64, h (ix3 e r j) * fc1 (ix3 e o j)) + b1 (ix2 e o)) * fc2 (ix3 e 0 o))
        + b2 (ix2 e 0) := by
  pointwise [dense]

/-- The gated sum over the experts. -/
theorem weighted_apply (g : FVec Ideal S1024x8 .f32) (o : FVec Ideal S8x1024x1 .f32) (r : Fin 1024) :
    weighted g o (ix2 r 0) = ∑ e : Fin 8, g (ix2 r e) * o (ix3 e r 0) := by
  pointwise [weighted]

/-- The column sums. -/
theorem columnSums_apply (g : FVec Ideal S1024x8 .f32) (e : Fin 8) :
    columnSums g (ix1 e) = ∑ r : Fin 1024, g (ix2 r e) := by
  pointwise [columnSums]

/-- The counts as numbers. -/
theorem counts_apply (g : FVec Ideal S1024x8 .f32) (e : Fin 8) :
    (sitofp .f32 (counts g) : FVec Ideal S8 .f32) (ix1 e) = ∑ r : Fin 1024, if (0 : EReal) < g (ix2 r e) then 1 else 0 := by
  pointwise [counts]
  have hf : Finset.fold IntOp.addi (0#32) (fun x : Fin 1024 => BitVec.setWidth 32 (BitVec.ofBool (decide ((0 : EReal) < g (ix2 x e)))))
      Finset.univ = BitVec.ofNat 32 (Finset.univ.filter fun x : Fin 1024 => (0 : EReal) < g (ix2 x e)).card := by
    rw [IndicatorCount.fold_addi_setWidth_eq_card]
    refine congrArg (fun S : Finset (Fin 1024) => BitVec.ofNat 32 S.card) (Finset.filter_congr fun r _ => ?_)
    by_cases h : (0 : EReal) < g (ix2 r e) <;> simp [h]
  refine (congrArg (FloatOps.sitofp (F := Ideal) .f32) hf).trans ?_
  rw [Finset.sum_boole]
  generalize (Finset.univ.filter fun x : Fin 1024 => (0 : EReal) < g (ix2 x e)) = S
  have hc : S.card < 2 ^ 31 := lt_of_le_of_lt (Finset.card_le_univ S) (by rw [Fintype.card_fin]; norm_num)
  have hw : (BitVec.ofNat 32 S.card).toInt = (S.card : Int) := toInt_ofNat_of_lt hc
  have hv : FloatOps.sitofp (F := Ideal) .f32 (BitVec.ofNat 32 S.card) = (((BitVec.ofNat 32 S.card).toInt : ℝ) : EReal) := rfl
  rw [hv, hw]
  push_cast
  rfl

/-- The variance's divisor: eight less one. -/
theorem corrected : (8 : EReal) - FloatOps.sitofp (F := Ideal) .f32 (1#32 : BitVec 32) = 7 := by
  have h1 : FloatOps.sitofp (F := Ideal) .f32 (1#32 : BitVec 32) = (((1#32 : BitVec 32).toInt : ℝ) : EReal) := rfl
  have h8 : (8 : EReal) = ((8 : ℝ) : EReal) := rfl
  have h7 : (7 : EReal) = ((7 : ℝ) : EReal) := rfl
  rw [h1, h8, h7, ← EReal.coe_sub]
  norm_num

/-- The variance's divisor is positive. -/
theorem seven_pos : (0 : EReal) < 7 := by
  have h7 : (7 : EReal) = ((7 : ℝ) : EReal) := rfl
  rw [h7]
  exact EReal.coe_pos.mpr (by norm_num)

/-- The balance loss is the specification's of the column sums and the counts. -/
theorem balance_apply (s : FVec Ideal S8 .f32) (n : IVec S8 32) (i : S1x1.Idx) :
    balance s n i = (Spec.cvSq (Ideal.ofBits .f32 0x2EDBE6FF#32) (fun e => s (ix1 e))
      + Spec.cvSq (Ideal.ofBits .f32 0x2EDBE6FF#32) (fun e => (sitofp .f32 n : FVec Ideal S8 .f32) (ix1 e)))
        * Ideal.ofBits .f32 0x3C23D70A#32 := by
  pointwise [balance, Lits.eight, corrected, Spec.cvSq]
  simp only [if_pos seven_pos]

end Cert.ReferenceIdeal.Value

end
-- ==== Proof.RefPre.lean ====
/- What the precondition says: every row's greatest logit is finite. -/
module

public import proofs.«01_k».proof.Proof.PreFacts
public import proofs.«01_k».proof.Proof.RefLoss
public import proofs.«01_k».proof.Proof.Gates

@[expose] public section

set_option maxRecDepth 16384

noncomputable section

namespace Cert.ReferenceIdeal.Value

open Cert.ReferenceIdeal Cert.ReferenceIdeal.Gen
open Idealize.ShloMosaic
open Cert Cert.PreFacts

/-- A conjunction of bits that is one has every bit one. -/
theorem all_of_fold {ι : Type} (f : ι → BitVec 1) (S : Finset ι) (h : S.fold IntOp.andi (1#1) f = 1#1) :
    ∀ i ∈ S, f i = 1#1 := by
  classical
  induction S using Finset.induction_on with
  | empty => intro i hi; exact absurd hi (Finset.notMem_empty i)
  | insert a S ha ih =>
    rw [Finset.fold_insert ha] at h
    have hand : ∀ x y : BitVec 1, IntOp.andi x y = 1#1 → x = 1#1 ∧ y = 1#1 := by decide
    obtain ⟨h1, h2⟩ := hand _ _ h
    intro i hi
    rcases Finset.mem_insert.mp hi with rfl | hi
    · exact h1
    · exact ih h2 i hi

/-- A number whose absolute value is below infinity is finite. -/
theorem abs_finite {t : EReal} (h : FloatOps.absf (F := Ideal) (φ := .f32) t < (⊤ : EReal)) : t ≠ ⊥ ∧ t ≠ ⊤ := by
  have h' : max t (-t) < (⊤ : EReal) := h
  constructor
  · rintro rfl
    simp at h'
  · rintro rfl
    simp at h'

/-- Under the precondition every row's greatest logit is finite. -/
theorem top_finite (a0 : FVec Ideal S1024x20x64 .f32) (a1 : FVec Ideal S64x8 .f32) (a2 a3 : FVec Ideal S8x64x64 .f32)
    (a4 a5 : FVec Ideal S8x64 .f32) (a6 : FVec Ideal S8x20x64 .f32) (a7 : FVec Ideal S8x20 .f32)
    (a8 : FVec Ideal S8x1x20 .f32) (a9 : FVec Ideal S8x1 .f32)
    (h : Pre_top_logit_finite.fn (F := Ideal) a0 a1 a2 a3 a4 a5 a6 a7 a8 a9 = fun _ => 1#1) (r : Fin 1024) :
    (logits a0 a1 (ix2 r (Spec.first fun e => logits a0 a1 (ix2 r e))) : EReal) ≠ ⊥
      ∧ (logits a0 a1 (ix2 r (Spec.first fun e => logits a0 a1 (ix2 r e))) : EReal) ≠ ⊤ := by
  have h0 := congrFun h (Shape.Idx.first h_S_)
  pointwise [Pre_top_logit_finite.fn, Lits.inf, Lits.neg_inf] at h0
  have h1 := all_of_fold _ _ h0 r (Finset.mem_univ r)
  have hfold : FloatOps.absf (F := Ideal) (φ := .f32) (Finset.fold max ⊥ (fun e : Fin 8 => ∑ i : Fin 64, a0 (ix3 r 19 i) * a1 (ix2 i e))
      Finset.univ) < (⊤ : EReal) := by
    by_contra hn
    refine absurd h1 ?_
    show BitVec.ofBool (decide _) ≠ 1#1
    rw [decide_eq_false hn]
    decide
  rw [Spec.fold_max_eq] at hfold
  have hl : (fun e : Fin 8 => logits a0 a1 (ix2 r e)) = fun e => ∑ i : Fin 64, a0 (ix3 r 19 i) * a1 (ix2 i e) :=
    funext fun e => logits_apply a0 a1 r e
  rw [hl, logits_apply]
  generalize (∑ i : Fin 64, a0 (ix3 r 19 i) * a1 (ix2 i (Spec.first fun e => ∑ i : Fin 64, a0 (ix3 r 19 i) * a1 (ix2 i e))) : EReal) = t at hfold ⊢
  exact abs_finite hfold

end Cert.ReferenceIdeal.Value

end
-- ==== Proof.RefResults.lean ====
/- The reference's two results are the specification's output and balance loss of the launch contents, where every row's
   greatest logit is finite. -/
module

public import proofs.«01_k».proof.Proof.RefStep
public import proofs.«01_k».proof.Proof.RefTop
public import proofs.«01_k».proof.Proof.RefLoss
public import proofs.«01_k».proof.Proof.RefPre

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem
open Cert

variable (m : (ℓ : Loc nD τ sig) → Buf (Elt Ideal) ℓ)

/-- The launch contents' logits. -/
abbrev launchLogits (c : Dev nD) : FVec Ideal S1024x8 .f32 :=
  logits (m ((c.tc : Thread nD τ).loc main_arg0)) (m ((c.tc : Thread nD τ).loc main_arg1))

/-- A row of the logits is the specification's. -/
theorem logits_spec (c : Dev nD) (r : Fin 1024) : (fun e => launchLogits m c (ix2 r e)) = (args m c).logit r :=
  funext fun e => (logits_apply _ _ r e).trans rfl

/-- Every row's greatest logit is finite. -/
def TopFinite (c : Dev nD) : Prop := ∀ r : Fin 1024,
  (launchLogits m c (ix2 r (Spec.first fun e => launchLogits m c (ix2 r e))) : EReal) ≠ ⊥
    ∧ (launchLogits m c (ix2 r (Spec.first fun e => launchLogits m c (ix2 r e))) : EReal) ≠ ⊤

/-- The gates are the specification's. -/
theorem gates_spec (c : Dev nD) (hf : TopFinite m c) (r : Fin 1024) (e : Fin 8) :
    gating (launchLogits m c) (ix2 r e) = (args m c).gates r e := by
  rw [gating_spec _ r (hf r).1 (hf r).2, logits_spec]
  rfl

/-- The experts' outputs from hidden states that are the specification's after all twenty time steps. -/
theorem dense_spec (c : Dev nD) (h : FVec Ideal S8x1024x64 .f32)
    (hh : ∀ (e : Fin 8) (r : Fin 1024) (j : Fin 64), h (ix3 e r j) = (args m c).hid 20 e r j) (e : Fin 8) (r : Fin 1024) :
    dense h (m ((c.tc : Thread nD τ).loc main_arg6))
      (m ((c.tc : Thread nD τ).loc main_arg7)) (m ((c.tc : Thread nD τ).loc main_arg8))
      (m ((c.tc : Thread nD τ).loc main_arg9)) (ix3 e r 0) = (args m c).out e r := by
  refine (dense_apply h _ _ _ _ e r).trans ?_
  simp only [hh]
  rfl

/-- The gated sum at every index of the first result. -/
theorem weighted_spec (c : Dev nD) (hf : TopFinite m c) (h : FVec Ideal S8x1024x64 .f32)
    (hh : ∀ (e : Fin 8) (r : Fin 1024) (j : Fin 64), h (ix3 e r j) = (args m c).hid 20 e r j) :
    weighted (gating (launchLogits m c)) (dense h (m ((c.tc : Thread nD τ).loc main_arg6))
      (m ((c.tc : Thread nD τ).loc main_arg7)) (m ((c.tc : Thread nD τ).loc main_arg8))
      (m ((c.tc : Thread nD τ).loc main_arg9))) = fun i : S1024x1.Idx => (args m c).y (i 0) := by
  have hi : ∀ i : S1024x1.Idx, ∃ r : Fin 1024, i = (ix2 r 0 : S1024x1.Idx) := fun i => ⟨i 0, by
    funext d
    match d with
    | 0 => rfl
    | 1 => exact Subsingleton.elim (α := Fin 1) _ _⟩
  funext i
  obtain ⟨r, rfl⟩ := hi i
  refine (weighted_apply _ _ r).trans (Finset.sum_congr rfl fun e _ => ?_)
  exact congrArg₂ (fun a b : EReal => a * b) (gates_spec m c hf r e) (dense_spec m c h hh e r)

/-- The first result is the specification's output. -/
theorem result_y (c : Dev nD) (hf : TopFinite m c) :
    afterL postI (exitContents m c) (Proc.devRef .tc main_v66) = fun i : S1024x1.Idx => (args m c).y (i 0) := by
  rw [final_y, exit_keeps m (r := main_arg0) (by decide), exit_keeps m (r := main_arg1) (by decide),
    exit_keeps m (r := main_arg6) (by decide), exit_keeps m (r := main_arg7) (by decide),
    exit_keeps m (r := main_arg8) (by decide), exit_keeps m (r := main_arg9) (by decide)]
  exact weighted_spec m c hf _ (exit_h m c)

/-- The second result is the specification's balance loss. -/
theorem result_loss (c : Dev nD) (hf : TopFinite m c) :
    afterL postI (exitContents m c) (Proc.devRef .tc main_v67)
      = fun _ : S1x1.Idx => (args m c).loss (Ideal.ofBits .f32 0x2EDBE6FF#32) (Ideal.ofBits .f32 0x3C23D70A#32) := by
  rw [final_loss, exit_keeps m (by decide), exit_keeps m (by decide)]
  funext i
  refine (balance_apply _ _ i).trans ?_
  have hs : (fun e : Fin 8 => columnSums (gating (launchLogits m c)) (ix1 e)) = (args m c).importance :=
    funext fun e => (columnSums_apply _ e).trans (Finset.sum_congr rfl fun r _ => gates_spec m c hf r e)
  have hn : (fun e : Fin 8 => (sitofp .f32 (counts (gating (launchLogits m c))) : FVec Ideal S8 .f32) (ix1 e)) = (args m c).load :=
    funext fun e => (counts_apply _ e).trans (Finset.sum_congr rfl fun r _ => by rw [gates_spec m c hf r e])
  rw [hs, hn]
  rfl

end Cert.ReferenceIdeal.Value

end
-- ==== Proof.Equation.lean ====
/- The two programs compute the same two arrays: both end with the specification's output and balance loss of the shared
   arguments. -/
module

public import proofs.«01_k».proof.Proof.KArray
public import proofs.«01_k».proof.Proof.RefResults

@[expose] public section

set_option maxRecDepth 16384

noncomputable section

namespace Cert.Equation

open Idealize.ShloMosaic Idealize.SL.Sem Cert Cert.PreFacts

/-- Memories that agree on the arguments give the same specification arrays. -/
theorem same_args (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9)) :
    ReferenceIdeal.Value.args m' c = KernelIdeal.Cells.args m c := by
  unfold ReferenceIdeal.Value.args KernelIdeal.Cells.args
  rw [h0, h1, h2, h3, h4, h5, h6, h7, h8, h9]

/-- The value claim: under the precondition both programs run and end with equal results and unchanged arguments. -/
theorem algebraic : algebraic_KernelIdeal_ReferenceIdeal_pre_top_logit_finite
    (hKernelIdeal := KernelIdeal.Gen.facts) (hReferenceIdeal := ReferenceIdeal.Gen.facts) (hPre_top_logit_finite := PreFacts.facts) := by
  intro m g m' g' hpre hargs
  have hsame : ∀ c : Dev KernelIdeal.nD, ReferenceIdeal.Value.args m' c = KernelIdeal.Cells.args m c := fun c => by
    obtain ⟨h0, h1, h2, h3, h4, h5, h6, h7, h8, h9⟩ := hargs c
    exact same_args m m' c h0 h1 h2 h3 h4 h5 h6 h7 h8 h9
  have hfin : ∀ c : Dev KernelIdeal.nD, ReferenceIdeal.Value.TopFinite m' c := fun c r => by
    obtain ⟨h0, h1, _⟩ := hargs c
    unfold ReferenceIdeal.Value.launchLogits
    rw [h0, h1]
    exact ReferenceIdeal.Value.top_finite _ _ _ _ _ _ _ _ _ _ (hpre c) r
  refine ⟨fun c => fun i : KernelIdeal.S1024x1.Idx => (KernelIdeal.Cells.args m c).y (i 0),
    fun c => fun _ => (KernelIdeal.Cells.args m c).loss (Ideal.ofBits .f32 0x2EDBE6FF#32) (Ideal.ofBits .f32 0x3C23D70A#32), ?_, ?_⟩
  · refine (θ_run _ _ _).mono (fun r h c => ?_) (KernelIdeal.Value.run_blocks (F := Ideal) m g)
    obtain ⟨hy, hl, hkept⟩ := h c
    exact ⟨hy.trans (KernelIdeal.Cells.result_y m c), hl.trans (KernelIdeal.Cells.result_loss m c), hkept⟩
  · refine (θ_run _ _ _).mono (fun r h c => ?_) (ReferenceIdeal.Value.run (F := Ideal) m' g')
    obtain ⟨hy, hl, hkept⟩ := h.1 c
    refine ⟨hy.trans ?_, hl.trans ?_, hkept⟩
    · rw [ReferenceIdeal.Value.result_y m' c (hfin c), hsame c]
    · rw [ReferenceIdeal.Value.result_loss m' c (hfin c), hsame c]
      rfl

end Cert.Equation

end
-- ==== Proof.lean ====
/- The proof of the certificate's claim, assembled: the kernel's and the reference's runs, and the equation of their
   results at the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefTrip
public import proofs.«01_k».proof.Proof.PreFacts
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as launched and every counter at zero. -/
theorem reference_frame : Cert.quiescent_ReferenceIdeal (hReferenceIdeal := Cert.ReferenceIdeal.Gen.facts) := fun m ρ _ =>
  (θ_run (Cert.ReferenceIdeal.defs (F := Ideal)) _ _).mono
    (fun _ h => And.intro (fun c => (h.1 c).2.2) h.2) (Cert.ReferenceIdeal.Value.run (F := Ideal) m ρ)

/-- The certificate: the kernel and the reference run to the end with their arguments unchanged and every counter at zero,
    the idealization keeps the kernel's text, and at the extended reals the two programs' results are equal. -/
theorem claim : Cert.Claim := by
  refine ⟨Cert.Kernel.Gen.facts, Cert.KernelIdeal.Gen.facts, Cert.ReferenceIdeal.Gen.facts, Cert.PreFacts.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ _root_.trivial,
    trivial, Cert.Equation.algebraic⟩

end Cert.Proof

end
